-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_embedding_finite [hPre_embedding_finite : Cert.Pre_embedding_finite.Facts] (m : (ℓ : Loc Cert.KernelIdeal.nD Cert.KernelIdeal.τ Cert.KernelIdeal.sig) → Buf (Elt Ideal) ℓ) : Prop :=
  ∀ c : Dev Cert.KernelIdeal.nD,
    (Cert.Pre_embedding_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_embedding_finite [hPre_embedding_finite : Cert.Pre_embedding_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_embedding_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_embedding_finite [hKernelIdeal : Cert.KernelIdeal.Facts] [hPre_embedding_finite : Cert.Pre_embedding_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_embedding_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_embedding_finite [hReferenceIdeal : Cert.ReferenceIdeal.Facts] [hPre_embedding_finite : Cert.Pre_embedding_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_embedding_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_embedding_finite [hKernelIdeal : Cert.KernelIdeal.Facts] [hReferenceIdeal : Cert.ReferenceIdeal.Facts] [hPre_embedding_finite : Cert.Pre_embedding_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_embedding_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v418) = v0 c
          ∧ r.2.mem ((c.tc : Thread Cert.ReferenceIdeal.nD Cert.ReferenceIdeal.τ).loc Cert.ReferenceIdeal.main_v411) = v1 c
          ∧ r.2.mem ((c.tc : Thread Cert.ReferenceIdeal.nD Cert.ReferenceIdeal.τ).loc Cert.ReferenceIdeal.main_v412) = v2 c
          ∧ r.2.mem ((c.tc : Thread Cert.ReferenceIdeal.nD Cert.ReferenceIdeal.τ).loc Cert.ReferenceIdeal.main_v413) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_embedding_finite : Cert.Pre_embedding_finite.Facts),
    quiescent_Kernel (hKernel := hKernel)
    ∧ quiescent_KernelIdeal (hKernelIdeal := hKernelIdeal)
    ∧ quiescent_KernelIdeal_pre_embedding_finite (hKernelIdeal := hKernelIdeal) (hPre_embedding_finite := hPre_embedding_finite)
    ∧ quiescent_ReferenceIdeal (hReferenceIdeal := hReferenceIdeal)
    ∧ quiescent_ReferenceIdeal_pre_embedding_finite (hReferenceIdeal := hReferenceIdeal) (hPre_embedding_finite := hPre_embedding_finite)
    ∧ preserves_Kernel_KernelIdeal
    ∧ algebraic_KernelIdeal_ReferenceIdeal_pre_embedding_finite (hKernelIdeal := hKernelIdeal) (hReferenceIdeal := hReferenceIdeal) (hPre_embedding_finite := hPre_embedding_finite)
-- ==== Pre_embedding_finite.lean ====
abbrev S4x32x512x512 : Shape := ⟨4, ![4, 32, 512, 512]⟩
abbrev S4x512x512 : Shape := ⟨3, ![4, 512, 512]⟩
abbrev S_ : Shape := ⟨0, ![]⟩

class Facts : Prop where
  bcast_S_S4x32x512x512 : S_.BroadcastsInDim S4x32x512x512 (![] : Fin 0 → Fin S4x32x512x512.rank)

variable [Facts]

def fn {F : FTy → Type} [FloatOps F] (main_arg0 : FVec F S4x32x512x512 .f32) (main_arg1 : IVec S4x512x512 32) : IVec S4x32x512x512 1 :=
  let main_v0 : FVec F S4x32x512x512 .f32 := Host.absf main_arg0
  let main_cst : FVec F S_ .f32 := constant S_ .f32 0x7F800000#32
  let main_v1 : FVec F S4x32x512x512 .f32 := broadcastInDim S4x32x512x512 ![] bcast_S_S4x32x512x512 main_cst
  let main_v2 : IVec S4x32x512x512 1 := cmpf .olt main_v0 main_v1
  main_v2
-- ==== Kernel.lean ====
abbrev S4x32x512x512 : Shape := ⟨4, ![4, 32, 512, 512]⟩
abbrev S4x512x512 : Shape := ⟨3, ![4, 512, 512]⟩
abbrev S4x32x262144 : Shape := ⟨3, ![4, 32, 262144]⟩
abbrev S4x1x262144 : Shape := ⟨3, ![4, 1, 262144]⟩
abbrev S1x4 : Shape := ⟨2, ![1, 4]⟩
abbrev S1x1x32768 : Shape := ⟨3, ![1, 1, 32768]⟩
abbrev S32x262144 : Shape := ⟨2, ![32, 262144]⟩
abbrev S32x32 : Shape := ⟨2, ![32, 32]⟩
abbrev S1x32 : Shape := ⟨2, ![1, 32]⟩
abbrev S4 : Shape := ⟨1, ![4]⟩
abbrev S8x4 : Shape := ⟨2, ![8, 4]⟩
abbrev S1 : Shape := ⟨1, ![1]⟩
abbrev S1x1 : Shape := ⟨2, ![1, 1]⟩
abbrev S_ : Shape := ⟨0, ![]⟩
abbrev S8x32768 : Shape := ⟨2, ![8, 32768]⟩
abbrev S1x8x32768 : Shape := ⟨3, ![1, 8, 32768]⟩
abbrev S1x32768 : Shape := ⟨2, ![1, 32768]⟩
abbrev S32x32768 : Shape := ⟨2, ![32, 32768]⟩
abbrev S32 : Shape := ⟨1, ![32]⟩
abbrev S1x1x32 : Shape := ⟨3, ![1, 1, 32]⟩
abbrev S1x1x1 : Shape := ⟨3, ![1, 1, 1]⟩
abbrev S32x1 : Shape := ⟨2, ![32, 1]⟩
abbrev S1x32x32 : Shape := ⟨3, ![1, 32, 32]⟩

abbrev nBuf : Space → Nat
  | .hbm => 13
  | .vmem => 9
  | .smem => 1
  | _ => 0

abbrev bufTy : (tb : Table) → Fin (tcTables nBuf tb) → BufTy
  | .hbm, ⟨0, _⟩ => ⟨S4x32x512x512, .f32⟩
  | .hbm, ⟨1, _⟩ => ⟨S4x512x512, .i32⟩
  | .hbm, ⟨2, _⟩ => ⟨S4x32x262144, .f32⟩
  | .hbm, ⟨3, _⟩ => ⟨S4x1x262144, .i32⟩
  | .hbm, ⟨4, _⟩ => ⟨S1x4, .f32⟩
  | .hbm, ⟨5, _⟩ => ⟨S1x1, .f32⟩
  | .hbm, ⟨6, _⟩ => ⟨S_, .f32⟩
  | .hbm, ⟨7, _⟩ => ⟨S1x1, .f32⟩
  | .hbm, ⟨8, _⟩ => ⟨S_, .f32⟩
  | .hbm, ⟨9, _⟩ => ⟨S1x1, .f32⟩
  | .hbm, ⟨10, _⟩ => ⟨S_, .f32⟩
  | .hbm, ⟨11, _⟩ => ⟨S1x1, .f32⟩
  | .hbm, ⟨12, _⟩ => ⟨S_, .f32⟩
  | .local _ .vmem, ⟨0, _⟩ => ⟨S1x1x32768, .i32⟩
  | .local _ .vmem, ⟨1, _⟩ => ⟨S1x1x32768, .i32⟩
  | .local _ .vmem, ⟨2, _⟩ => ⟨S1x4, .f32⟩
  | .local _ .vmem, ⟨3, _⟩ => ⟨S32x262144, .f32⟩
  | .local _ .vmem, ⟨4, _⟩ => ⟨S32x32, .f32⟩
  | .local _ .vmem, ⟨5, _⟩ => ⟨S32x32, .f32⟩
  | .local _ .vmem, ⟨6, _⟩ => ⟨S1x32, .f32⟩
  | .local _ .vmem, ⟨7, _⟩ => ⟨S1x32, .f32⟩
  | .local _ .vmem, ⟨8, _⟩ => ⟨S1x32, .f32⟩
  | .local _ .smem, ⟨0, _⟩ => ⟨S4, .f32⟩
  | _, _ => ⟨S4x32x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.smem, 0, rfl⟩
abbrev cc0_sem0_0 : DmaSem sig := 0
abbrev cc0_sem0_1 : DmaSem sig := 1
abbrev cc0_sem1_0 : DmaSem sig := 2

abbrev nD : Nat := 1
abbrev τ : Topo := Topo.v7x

variable {F : FTy → Type} [FloatOps F]

abbrev grid0 : Pipeline.Grid := ⟨3, ![4, 2, 8], ![false, false, false]⟩

def k0_cond2 (i : grid0.Coords) : BitVec 1 :=
  let arg1 : BitVec 32 := BitVec.ofNat 32 (i 1).val
  let c0_i32_5 : BitVec 32 := 0#32
  let v14 : BitVec 1 := Scalar.cmpi .eq arg1 c0_i32_5
  let v15 : BitVec 32 := Scalar.extui v14
  let c0_i32_6 : BitVec 32 := 0#32
  let v16 : BitVec 1 := Scalar.cmpi .ne v15 c0_i32_6
  v16

def k0_off1 (i : grid0.Coords) : Fin 2 → Nat :=
  let arg2 : BitVec 32 := BitVec.ofNat 32 (i 2).val
  let c0_i32_11 : BitVec 32 := 0#32
  ![arg2.toNat, 0]
def k0_off2 (i : grid0.Coords) : Fin 2 → Nat :=
  let c0_i32_12 : BitVec 32 := 0#32
  let arg2 : BitVec 32 := BitVec.ofNat 32 (i 2).val
  let c32768_i32_10 : BitVec 32 := 32768#32
  let v24 : BitVec 32 := Scalar.muli arg2 c32768_i32_10
  ![0, v24.toNat]
def k0_off3 (i : grid0.Coords) : Fin 3 → Nat :=
  let arg0 : BitVec 32 := BitVec.ofNat 32 (i 0).val
  let c0_i32_13 : BitVec 32 := 0#32
  let arg2 : BitVec 32 := BitVec.ofNat 32 (i 2).val
  let c32768_i32 : BitVec 32 := 32768#32
  let v23 : BitVec 32 := Scalar.muli arg2 c32768_i32
  ![arg0.toNat, 0, v23.toNat]
def k0_off4 (i : grid0.Coords) : Fin 2 → Nat :=
  let arg2 : BitVec 32 := BitVec.ofNat 32 (i 2).val
  let c1_i32_16 : BitVec 32 := 1#32
  ![arg2.toNat, 1]
def k0_off5 (i : grid0.Coords) : Fin 2 → Nat :=
  let c8_i32 : BitVec 32 := 8#32
  let arg2 : BitVec 32 := BitVec.ofNat 32 (i 2).val
  let c32768_i32_15 : BitVec 32 := 32768#32
  let v31 : BitVec 32 := Scalar.muli arg2 c32768_i32_15
  ![8, v31.toNat]
def k0_off6 (i : grid0.Coords) : Fin 3 → Nat :=
  let arg0 : BitVec 32 := BitVec.ofNat 32 (i 0).val
  let c8_i32_17 : BitVec 32 := 8#32
  let arg2 : BitVec 32 := BitVec.ofNat 32 (i 2).val
  let c32768_i32_14 : BitVec 32 := 32768#32
  let v30 : BitVec 32 := Scalar.muli arg2 c32768_i32_14
  ![arg0.toNat, 8, v30.toNat]
def k0_off7 (i : grid0.Coords) : Fin 2 → Nat :=
  let arg2 : BitVec 32 := BitVec.ofNat 32 (i 2).val
  let c2_i32 : BitVec 32 := 2#32
  ![arg2.toNat, 2]
def k0_off8 (i : grid0.Coords) : Fin 2 → Nat :=
  let c16_i32 : BitVec 32 := 16#32
  let arg2 : BitVec 32 := BitVec.ofNat 32 (i 2).val
  let c32768_i32_19 : BitVec 32 := 32768#32
  let v38 : BitVec 32 := Scalar.muli arg2 c32768_i32_19
  ![16, v38.toNat]
def k0_off9 (i : grid0.Coords) : Fin 3 → Nat :=
  let arg0 : BitVec 32 := BitVec.ofNat 32 (i 0).val
  let c16_i32_20 : BitVec 32 := 16#32
  let arg2 : BitVec 32 := BitVec.ofNat 32 (i 2).val
  let c32768_i32_18 : BitVec 32 := 32768#32
  let v37 : BitVec 32 := Scalar.muli arg2 c32768_i32_18
  ![arg0.toNat, 16, v37.toNat]
def k0_off10 (i : grid0.Coords) : Fin 2 → Nat :=
  let arg2 : BitVec 32 := BitVec.ofNat 32 (i 2).val
  let c3_i32 : BitVec 32 := 3#32
  ![arg2.toNat, 3]
def k0_off11 (i : grid0.Coords) : Fin 2 → Nat :=
  let c24_i32 : BitVec 32 := 24#32
  let arg2 : BitVec 32 := BitVec.ofNat 32 (i 2).val
  let c32768_i32_22 : BitVec 32 := 32768#32
  let v45 : BitVec 32 := Scalar.muli arg2 c32768_i32_22
  ![24, v45.toNat]
def k0_off12 (i : grid0.Coords) : Fin 3 → Nat :=
  let arg0 : BitVec 32 := BitVec.ofNat 32 (i 0).val
  let c24_i32_23 : BitVec 32 := 24#32
  let arg2 : BitVec 32 := BitVec.ofNat 32 (i 2).val
  let c32768_i32_21 : BitVec 32 := 32768#32
  let v44 : BitVec 32 := Scalar.muli arg2 c32768_i32_21
  ![arg0.toNat, 24, v44.toNat]
def k0_off13 (i : grid0.Coords) : Fin 2 → Nat :=
  let c0_25 : Index := 0#32
  let arg2 : BitVec 32 := BitVec.ofNat 32 (i 2).val
  let c32768_i32_24 : BitVec 32 := 32768#32
  let v51 : BitVec 32 := Scalar.muli arg2 c32768_i32_24
  let v52 : Index := Scalar.indexCast v51
  ![0, v52.toNat]
def k0_cond5 (i : grid0.Coords) : BitVec 1 :=
  let arg1 : BitVec 32 := BitVec.ofNat 32 (i 1).val
  let c1_i32 : BitVec 32 := 1#32
  let v17 : BitVec 1 := Scalar.cmpi .eq arg1 c1_i32
  let v18 : BitVec 32 := Scalar.extui v17
  let c0_i32_7 : BitVec 32 := 0#32
  let v19 : BitVec 1 := Scalar.cmpi .ne v18 c0_i32_7
  v19

def k0_off14 (i : grid0.Coords) : Fin 2 → Nat :=
  let c0_10 : Index := 0#32
  let arg2 : BitVec 32 := BitVec.ofNat 32 (i 2).val
  let c32768_i32 : BitVec 32 := 32768#32
  let v23 : BitVec 32 := Scalar.muli arg2 c32768_i32
  let v24 : Index := Scalar.indexCast v23
  ![0, v24.toNat]
def k0_cond7 (i : grid0.Coords) : BitVec 1 :=
  let arg0 : BitVec 32 := BitVec.ofNat 32 (i 0).val
  let c3_i32 : BitVec 32 := 3#32
  let v53 : BitVec 1 := Scalar.cmpi .slt arg0 c3_i32
  let v54 : BitVec 32 := Scalar.extui v53
  let c0_i32_28 : BitVec 32 := 0#32
  let v55 : BitVec 1 := Scalar.cmpi .ne v54 c0_i32_28
  v55

def k0_off15 (i : grid0.Coords) : Fin 2 → Nat :=
  let arg2 : BitVec 32 := BitVec.ofNat 32 (i 2).val
  let c0_i32_33 : BitVec 32 := 0#32
  ![arg2.toNat, 0]
def k0_off16 (i : grid0.Coords) : Fin 2 → Nat :=
  let c0_i32_34 : BitVec 32 := 0#32
  let arg2 : BitVec 32 := BitVec.ofNat 32 (i 2).val
  let c32768_i32_32 : BitVec 32 := 32768#32
  let v61 : BitVec 32 := Scalar.muli arg2 c32768_i32_32
  ![0, v61.toNat]
def k0_off17 (i : grid0.Coords) : Fin 3 → Nat :=
  let arg0 : BitVec 32 := BitVec.ofNat 32 (i 0).val
  let c1_i32_30 : BitVec 32 := 1#32
  let v59 : BitVec 32 := Scalar.addi arg0 c1_i32_30
  let c0_i32_35 : BitVec 32 := 0#32
  let arg2 : BitVec 32 := BitVec.ofNat 32 (i 2).val
  let c32768_i32_31 : BitVec 32 := 32768#32
  let v60 : BitVec 32 := Scalar.muli arg2 c32768_i32_31
  ![v59.toNat, 0, v60.toNat]
def k0_off18 (i : grid0.Coords) : Fin 2 → Nat :=
  let arg2 : BitVec 32 := BitVec.ofNat 32 (i 2).val
  let c1_i32_38 : BitVec 32 := 1#32
  ![arg2.toNat, 1]
def k0_off19 (i : grid0.Coords) : Fin 2 → Nat :=
  let c8_i32 : BitVec 32 := 8#32
  let arg2 : BitVec 32 := BitVec.ofNat 32 (i 2).val
  let c32768_i32_37 : BitVec 32 := 32768#32
  let v68 : BitVec 32 := Scalar.muli arg2 c32768_i32_37
  ![8, v68.toNat]
def k0_off20 (i : grid0.Coords) : Fin 3 → Nat :=
  let arg0 : BitVec 32 := BitVec.ofNat 32 (i 0).val
  let c1_i32_30 : BitVec 32 := 1#32
  let v59 : BitVec 32 := Scalar.addi arg0 c1_i32_30
  let c8_i32_39 : BitVec 32 := 8#32
  let arg2 : BitVec 32 := BitVec.ofNat 32 (i 2).val
  let c32768_i32_36 : BitVec 32 := 32768#32
  let v67 : BitVec 32 := Scalar.muli arg2 c32768_i32_36
  ![v59.toNat, 8, v67.toNat]
def k0_off21 (i : grid0.Coords) : Fin 2 → Nat :=
  let arg2 : BitVec 32 := BitVec.ofNat 32 (i 2).val
  let c2_i32 : BitVec 32 := 2#32
  ![arg2.toNat, 2]
def k0_off22 (i : grid0.Coords) : Fin 2 → Nat :=
  let c16_i32 : BitVec 32 := 16#32
  let arg2 : BitVec 32 := BitVec.ofNat 32 (i 2).val
  let c32768_i32_41 : BitVec 32 := 32768#32
  let v75 : BitVec 32 := Scalar.muli arg2 c32768_i32_41
  ![16, v75.toNat]
def k0_off23 (i : grid0.Coords) : Fin 3 → Nat :=
  let arg0 : BitVec 32 := BitVec.ofNat 32 (i 0).val
  let c1_i32_30 : BitVec 32 := 1#32
  let v59 : BitVec 32 := Scalar.addi arg0 c1_i32_30
  let c16_i32_42 : BitVec 32 := 16#32
  let arg2 : BitVec 32 := BitVec.ofNat 32 (i 2).val
  let c32768_i32_40 : BitVec 32 := 32768#32
  let v74 : BitVec 32 := Scalar.muli arg2 c32768_i32_40
  ![v59.toNat, 16, v74.toNat]
def k0_off24 (i : grid0.Coords) : Fin 2 → Nat :=
  let arg2 : BitVec 32 := BitVec.ofNat 32 (i 2).val
  let c3_i32_45 : BitVec 32 := 3#32
  ![arg2.toNat, 3]
def k0_off25 (i : grid0.Coords) : Fin 2 → Nat :=
  let c24_i32 : BitVec 32 := 24#32
  let arg2 : BitVec 32 := BitVec.ofNat 32 (i 2).val
  let c32768_i32_44 : BitVec 32 := 32768#32
  let v82 : BitVec 32 := Scalar.muli arg2 c32768_i32_44
  ![24, v82.toNat]
def k0_off26 (i : grid0.Coords) : Fin 3 → Nat :=
  let arg0 : BitVec 32 := BitVec.ofNat 32 (i 0).val
  let c1_i32_30 : BitVec 32 := 1#32
  let v59 : BitVec 32 := Scalar.addi arg0 c1_i32_30
  let c24_i32_46 : BitVec 32 := 24#32
  let arg2 : BitVec 32 := BitVec.ofNat 32 (i 2).val
  let c32768_i32_43 : BitVec 32 := 32768#32
  let v81 : BitVec 32 := Scalar.muli arg2 c32768_i32_43
  ![v59.toNat, 24, v81.toNat]
def k0_cond8 (i : grid0.Coords) : BitVec 1 :=
  let arg2 : BitVec 32 := BitVec.ofNat 32 (i 2).val
  let c7_i32 : BitVec 32 := 7#32
  let v56 : BitVec 1 := Scalar.cmpi .eq arg2 c7_i32
  let v57 : BitVec 32 := Scalar.extui v56
  let c0_i32_29 : BitVec 32 := 0#32
  let v58 : BitVec 1 := Scalar.cmpi .ne v57 c0_i32_29
  v58

def k0_cond9 (i : grid0.Coords) : BitVec 1 :=
  let arg0 : BitVec 32 := BitVec.ofNat 32 (i 0).val
  let c3_i32_64 : BitVec 32 := 3#32
  let v160 : BitVec 1 := Scalar.cmpi .eq arg0 c3_i32_64
  let v161 : BitVec 32 := Scalar.extui v160
  let c0_i32_65 : BitVec 32 := 0#32
  let v162 : BitVec 1 := Scalar.cmpi .ne v161 c0_i32_65
  v162

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x32768 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]
-- ==== ReferenceIdeal.lean ====
abbrev S4x32x512x512 : Shape := ⟨4, ![4, 32, 512, 512]⟩
abbrev S4x512x512 : Shape := ⟨3, ![4, 512, 512]⟩
abbrev S4x32x262144 : Shape := ⟨3, ![4, 32, 262144]⟩
abbrev S4x262144 : Shape := ⟨2, ![4, 262144]⟩
abbrev S1x32x262144 : Shape := ⟨3, ![1, 32, 262144]⟩
abbrev S32x262144 : Shape := ⟨2, ![32, 262144]⟩
abbrev S1x262144 : Shape := ⟨2, ![1, 262144]⟩
abbrev S262144 : Shape := ⟨1, ![262144]⟩
abbrev S32 : Shape := ⟨1, ![32]⟩
abbrev S_ : Shape := ⟨0, ![]⟩
abbrev S262144x1 : Shape := ⟨2, ![262144, 1]⟩
abbrev S262144x32 : Shape := ⟨2, ![262144, 32]⟩
abbrev S32x32 : Shape := ⟨2, ![32, 32]⟩
abbrev S32x1 : Shape := ⟨2, ![32, 1]⟩
abbrev S32x1x32 : Shape := ⟨3, ![32, 1, 32]⟩
abbrev S1x32x32 : Shape := ⟨3, ![1, 32, 32]⟩
abbrev S32x32x32 : Shape := ⟨3, ![32, 32, 32]⟩
abbrev S1x32 : Shape := ⟨2, ![1, 32]⟩

abbrev nBuf : Space → Nat
  | .hbm => 577
  | .vmem => 0
  | .smem => 0
  | _ => 0

abbrev hbmTy0_0 (i : Nat) : BufTy := match i % 128 with
  | 0 => ⟨S4x32x512x512, .f32⟩
  | 1 => ⟨S4x512x512, .i32⟩
  | 2 => ⟨S4x32x262144, .f32⟩
  | 3 => ⟨S4x262144, .i32⟩
  | 4 => ⟨S1x32x262144, .f32⟩
  | 5 => ⟨S32x262144, .f32⟩
  | 6 => ⟨S1x262144, .i32⟩
  | 7 => ⟨S262144, .i32⟩
  | 8 => ⟨S32, .i32⟩
  | 9 => ⟨S_, .f32⟩
  | 10 => ⟨S262144, .f32⟩
  | 11 => ⟨S_, .f32⟩
  | 12 => ⟨S32, .f32⟩
  | 13 => ⟨S262144x1, .i32⟩
  | 14 => ⟨S32, .f32⟩
  | 15 => ⟨S262144x32, .f32⟩
  | 16 => ⟨S_, .f32⟩
  | 17 => ⟨S32x32, .f32⟩
  | 18 => ⟨S262144x1, .i32⟩
  | 19 => ⟨S32x32, .f32⟩
  | 20 => ⟨S_, .f32⟩
  | 21 => ⟨S32, .f32⟩
  | 22 => ⟨S32, .f32⟩
  | 23 => ⟨S32x1, .f32⟩
  | 24 => ⟨S32x32, .f32⟩
  | 25 => ⟨S32x32, .f32⟩
  | 26 => ⟨S_, .f32⟩
  | 27 => ⟨S32, .f32⟩
  | 28 => ⟨S32, .i1⟩
  | 29 => ⟨S_, .i32⟩
  | 30 => ⟨S32, .i32⟩
  | 31 => ⟨S32, .i1⟩
  | 32 => ⟨S32, .i1⟩
  | 33 => ⟨S32, .f32⟩
  | 34 => ⟨S_, .f32⟩
  | 35 => ⟨S_, .f32⟩
  | 36 => ⟨S_, .i32⟩
  | 37 => ⟨S262144, .i32⟩
  | 38 => ⟨S262144, .i1⟩
  | 39 => ⟨S_, .i32⟩
  | 40 => ⟨S262144, .i32⟩
  | 41 => ⟨S262144, .i32⟩
  | 42 => ⟨S262144, .i32⟩
  | 43 => ⟨S262144x1, .i32⟩
  | 44 => ⟨S262144x32, .f32⟩
  | 45 => ⟨S262144x32, .f32⟩
  | 46 => ⟨S262144x32, .f32⟩
  | 47 => ⟨S262144x32, .f32⟩
  | 48 => ⟨S_, .f32⟩
  | 49 => ⟨S262144, .f32⟩
  | 50 => ⟨S_, .f32⟩
  | 51 => ⟨S262144, .f32⟩
  | 52 => ⟨S262144, .f32⟩
  | 53 => ⟨S262144, .f32⟩
  | 54 => ⟨S_, .f32⟩
  | 55 => ⟨S262144, .f32⟩
  | 56 => ⟨S262144, .f32⟩
  | 57 => ⟨S_, .f32⟩
  | 58 => ⟨S262144, .f32⟩
  | 59 => ⟨S262144, .f32⟩
  | 60 => ⟨S262144, .f32⟩
  | 61 => ⟨S_, .f32⟩
  | 62 => ⟨S32, .f32⟩
  | 63 => ⟨S262144x1, .i32⟩
  | 64 => ⟨S32, .f32⟩
  | 65 => ⟨S32, .f32⟩
  | 66 => ⟨S_, .f32⟩
  | 67 => ⟨S_, .f32⟩
  | 68 => ⟨S32, .f32⟩
  | 69 => ⟨S32, .f32⟩
  | 70 => ⟨S_, .f32⟩
  | 71 => ⟨S_, .f32⟩
  | 72 => ⟨S_, .f32⟩
  | 73 => ⟨S_, .f32⟩
  | 74 => ⟨S_, .f32⟩
  | 75 => ⟨S32x1x32, .f32⟩
  | 76 => ⟨S1x32x32, .f32⟩
  | 77 => ⟨S32x32x32, .f32⟩
  | 78 => ⟨S32x32x32, .f32⟩
  | 79 => ⟨S32x32x32, .f32⟩
  | 80 => ⟨S32x32x32, .f32⟩
  | 81 => ⟨S_, .f32⟩
  | 82 => ⟨S32x32, .f32⟩
  | 83 => ⟨S_, .f32⟩
  | 84 => ⟨S32x32, .f32⟩
  | 85 => ⟨S32x32, .f32⟩
  | 86 => ⟨S32x32, .f32⟩
  | 87 => ⟨S32x1, .i1⟩
  | 88 => ⟨S1x32, .i1⟩
  | 89 => ⟨S32x32, .i1⟩
  | 90 => ⟨S32x32, .i1⟩
  | 91 => ⟨S32x32, .i1⟩
  | 92 => ⟨S32x1, .i32⟩
  | 93 => ⟨S1x32, .i32⟩
  | 94 => ⟨S32x32, .i32⟩
  | 95 => ⟨S32x32, .i32⟩
  | 96 => ⟨S32x32, .i1⟩
  | 97 => ⟨S32x32, .i1⟩
  | 98 => ⟨S_, .f32⟩
  | 99 => ⟨S32x32, .f32⟩
  | 100 => ⟨S32x32, .f32⟩
  | 101 => ⟨S_, .f32⟩
  | 102 => ⟨S32x32, .f32⟩
  | 103 => ⟨S32x32, .f32⟩
  | 104 => ⟨S32x32, .f32⟩
  | 105 => ⟨S32x32, .f32⟩
  | 106 => ⟨S_, .f32⟩
  | 107 => ⟨S_, .f32⟩
  | 108 => ⟨S_, .f32⟩
  | 109 => ⟨S_, .f32⟩
  | 110 => ⟨S32x32, .f32⟩
  | 111 => ⟨S32x32, .f32⟩
  | 112 => ⟨S_, .f32⟩
  | 113 => ⟨S_, .f32⟩
  | 114 => ⟨S_, .f32⟩
  | 115 => ⟨S_, .f32⟩
  | 116 => ⟨S_, .f32⟩
  | 117 => ⟨S32x32, .f32⟩
  | 118 => ⟨S_, .f32⟩
  | 119 => ⟨S32, .f32⟩
  | 120 => ⟨S_, .f32⟩
  | 121 => ⟨S32, .f32⟩
  | 122 => ⟨S32, .f32⟩
  | 123 => ⟨S32, .f32⟩
  | 124 => ⟨S_, .f32⟩
  | 125 => ⟨S_, .f32⟩
  | 126 => ⟨S32, .f32⟩
  | 127 => ⟨S32, .f32⟩
  | _ => ⟨S4x32x512x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .i1⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S1x32x262144, .f32⟩
  | 20 => ⟨S32x262144, .f32⟩
  | 21 => ⟨S1x262144, .i32⟩
  | 22 => ⟨S262144, .i32⟩
  | 23 => ⟨S32, .i32⟩
  | 24 => ⟨S_, .f32⟩
  | 25 => ⟨S262144, .f32⟩
  | 26 => ⟨S_, .f32⟩
  | 27 => ⟨S32, .f32⟩
  | 28 => ⟨S262144x1, .i32⟩
  | 29 => ⟨S32, .f32⟩
  | 30 => ⟨S262144x32, .f32⟩
  | 31 => ⟨S_, .f32⟩
  | 32 => ⟨S32x32, .f32⟩
  | 33 => ⟨S262144x1, .i32⟩
  | 34 => ⟨S32x32, .f32⟩
  | 35 => ⟨S_, .f32⟩
  | 36 => ⟨S32, .f32⟩
  | 37 => ⟨S32, .f32⟩
  | 38 => ⟨S32x1, .f32⟩
  | 39 => ⟨S32x32, .f32⟩
  | 40 => ⟨S32x32, .f32⟩
  | 41 => ⟨S_, .f32⟩
  | 42 => ⟨S32, .f32⟩
  | 43 => ⟨S32, .i1⟩
  | 44 => ⟨S_, .i32⟩
  | 45 => ⟨S32, .i32⟩
  | 46 => ⟨S32, .i1⟩
  | 47 => ⟨S32, .i1⟩
  | 48 => ⟨S32, .f32⟩
  | 49 => ⟨S_, .f32⟩
  | 50 => ⟨S_, .f32⟩
  | 51 => ⟨S_, .i32⟩
  | 52 => ⟨S262144, .i32⟩
  | 53 => ⟨S262144, .i1⟩
  | 54 => ⟨S_, .i32⟩
  | 55 => ⟨S262144, .i32⟩
  | 56 => ⟨S262144, .i32⟩
  | 57 => ⟨S262144, .i32⟩
  | 58 => ⟨S262144x1, .i32⟩
  | 59 => ⟨S262144x32, .f32⟩
  | 60 => ⟨S262144x32, .f32⟩
  | 61 => ⟨S262144x32, .f32⟩
  | 62 => ⟨S262144x32, .f32⟩
  | 63 => ⟨S_, .f32⟩
  | 64 => ⟨S262144, .f32⟩
  | 65 => ⟨S_, .f32⟩
  | 66 => ⟨S262144, .f32⟩
  | 67 => ⟨S262144, .f32⟩
  | 68 => ⟨S262144, .f32⟩
  | 69 => ⟨S_, .f32⟩
  | 70 => ⟨S262144, .f32⟩
  | 71 => ⟨S262144, .f32⟩
  | 72 => ⟨S_, .f32⟩
  | 73 => ⟨S262144, .f32⟩
  | 74 => ⟨S262144, .f32⟩
  | 75 => ⟨S262144, .f32⟩
  | 76 => ⟨S_, .f32⟩
  | 77 => ⟨S32, .f32⟩
  | 78 => ⟨S262144x1, .i32⟩
  | 79 => ⟨S32, .f32⟩
  | 80 => ⟨S32, .f32⟩
  | 81 => ⟨S_, .f32⟩
  | 82 => ⟨S_, .f32⟩
  | 83 => ⟨S32, .f32⟩
  | 84 => ⟨S32, .f32⟩
  | 85 => ⟨S_, .f32⟩
  | 86 => ⟨S_, .f32⟩
  | 87 => ⟨S_, .f32⟩
  | 88 => ⟨S_, .f32⟩
  | 89 => ⟨S_, .f32⟩
  | 90 => ⟨S32x1x32, .f32⟩
  | 91 => ⟨S1x32x32, .f32⟩
  | 92 => ⟨S32x32x32, .f32⟩
  | 93 => ⟨S32x32x32, .f32⟩
  | 94 => ⟨S32x32x32, .f32⟩
  | 95 => ⟨S32x32x32, .f32⟩
  | 96 => ⟨S_, .f32⟩
  | 97 => ⟨S32x32, .f32⟩
  | 98 => ⟨S_, .f32⟩
  | 99 => ⟨S32x32, .f32⟩
  | 100 => ⟨S32x32, .f32⟩
  | 101 => ⟨S32x32, .f32⟩
  | 102 => ⟨S32x1, .i1⟩
  | 103 => ⟨S1x32, .i1⟩
  | 104 => ⟨S32x32, .i1⟩
  | 105 => ⟨S32x32, .i1⟩
  | 106 => ⟨S32x32, .i1⟩
  | 107 => ⟨S32x1, .i32⟩
  | 108 => ⟨S1x32, .i32⟩
  | 109 => ⟨S32x32, .i32⟩
  | 110 => ⟨S32x32, .i32⟩
  | 111 => ⟨S32x32, .i1⟩
  | 112 => ⟨S32x32, .i1⟩
  | 113 => ⟨S_, .f32⟩
  | 114 => ⟨S32x32, .f32⟩
  | 115 => ⟨S32x32, .f32⟩
  | 116 => ⟨S_, .f32⟩
  | 117 => ⟨S32x32, .f32⟩
  | 118 => ⟨S32x32, .f32⟩
  | 119 => ⟨S32x32, .f32⟩
  | 120 => ⟨S32x32, .f32⟩
  | 121 => ⟨S_, .f32⟩
  | 122 => ⟨S_, .f32⟩
  | 123 => ⟨S_, .f32⟩
  | 124 => ⟨S_, .f32⟩
  | 125 => ⟨S32x32, .f32⟩
  | 126 => ⟨S32x32, .f32⟩
  | 127 => ⟨S_, .f32⟩
  | _ => ⟨S4x32x512x512, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S32x32, .f32⟩
  | 5 => ⟨S_, .f32⟩
  | 6 => ⟨S32, .f32⟩
  | 7 => ⟨S_, .f32⟩
  | 8 => ⟨S32, .f32⟩
  | 9 => ⟨S32, .f32⟩
  | 10 => ⟨S32, .f32⟩
  | 11 => ⟨S_, .f32⟩
  | 12 => ⟨S_, .f32⟩
  | 13 => ⟨S32, .f32⟩
  | 14 => ⟨S32, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .i1⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S1x32x262144, .f32⟩
  | 31 => ⟨S32x262144, .f32⟩
  | 32 => ⟨S1x262144, .i32⟩
  | 33 => ⟨S262144, .i32⟩
  | 34 => ⟨S32, .i32⟩
  | 35 => ⟨S_, .f32⟩
  | 36 => ⟨S262144, .f32⟩
  | 37 => ⟨S_, .f32⟩
  | 38 => ⟨S32, .f32⟩
  | 39 => ⟨S262144x1, .i32⟩
  | 40 => ⟨S32, .f32⟩
  | 41 => ⟨S262144x32, .f32⟩
  | 42 => ⟨S_, .f32⟩
  | 43 => ⟨S32x32, .f32⟩
  | 44 => ⟨S262144x1, .i32⟩
  | 45 => ⟨S32x32, .f32⟩
  | 46 => ⟨S_, .f32⟩
  | 47 => ⟨S32, .f32⟩
  | 48 => ⟨S32, .f32⟩
  | 49 => ⟨S32x1, .f32⟩
  | 50 => ⟨S32x32, .f32⟩
  | 51 => ⟨S32x32, .f32⟩
  | 52 => ⟨S_, .f32⟩
  | 53 => ⟨S32, .f32⟩
  | 54 => ⟨S32, .i1⟩
  | 55 => ⟨S_, .i32⟩
  | 56 => ⟨S32, .i32⟩
  | 57 => ⟨S32, .i1⟩
  | 58 => ⟨S32, .i1⟩
  | 59 => ⟨S32, .f32⟩
  | 60 => ⟨S_, .f32⟩
  | 61 => ⟨S_, .f32⟩
  | 62 => ⟨S_, .i32⟩
  | 63 => ⟨S262144, .i32⟩
  | 64 => ⟨S262144, .i1⟩
  | 65 => ⟨S_, .i32⟩
  | 66 => ⟨S262144, .i32⟩
  | 67 => ⟨S262144, .i32⟩
  | 68 => ⟨S262144, .i32⟩
  | 69 => ⟨S262144x1, .i32⟩
  | 70 => ⟨S262144x32, .f32⟩
  | 71 => ⟨S262144x32, .f32⟩
  | 72 => ⟨S262144x32, .f32⟩
  | 73 => ⟨S262144x32, .f32⟩
  | 74 => ⟨S_, .f32⟩
  | 75 => ⟨S262144, .f32⟩
  | 76 => ⟨S_, .f32⟩
  | 77 => ⟨S262144, .f32⟩
  | 78 => ⟨S262144, .f32⟩
  | 79 => ⟨S262144, .f32⟩
  | 80 => ⟨S_, .f32⟩
  | 81 => ⟨S262144, .f32⟩
  | 82 => ⟨S262144, .f32⟩
  | 83 => ⟨S_, .f32⟩
  | 84 => ⟨S262144, .f32⟩
  | 85 => ⟨S262144, .f32⟩
  | 86 => ⟨S262144, .f32⟩
  | 87 => ⟨S_, .f32⟩
  | 88 => ⟨S32, .f32⟩
  | 89 => ⟨S262144x1, .i32⟩
  | 90 => ⟨S32, .f32⟩
  | 91 => ⟨S32, .f32⟩
  | 92 => ⟨S_, .f32⟩
  | 93 => ⟨S_, .f32⟩
  | 94 => ⟨S32, .f32⟩
  | 95 => ⟨S32, .f32⟩
  | 96 => ⟨S_, .f32⟩
  | 97 => ⟨S_, .f32⟩
  | 98 => ⟨S_, .f32⟩
  | 99 => ⟨S_, .f32⟩
  | 100 => ⟨S_, .f32⟩
  | 101 => ⟨S32x1x32, .f32⟩
  | 102 => ⟨S1x32x32, .f32⟩
  | 103 => ⟨S32x32x32, .f32⟩
  | 104 => ⟨S32x32x32, .f32⟩
  | 105 => ⟨S32x32x32, .f32⟩
  | 106 => ⟨S32x32x32, .f32⟩
  | 107 => ⟨S_, .f32⟩
  | 108 => ⟨S32x32, .f32⟩
  | 109 => ⟨S_, .f32⟩
  | 110 => ⟨S32x32, .f32⟩
  | 111 => ⟨S32x32, .f32⟩
  | 112 => ⟨S32x32, .f32⟩
  | 113 => ⟨S32x1, .i1⟩
  | 114 => ⟨S1x32, .i1⟩
  | 115 => ⟨S32x32, .i1⟩
  | 116 => ⟨S32x32, .i1⟩
  | 117 => ⟨S32x32, .i1⟩
  | 118 => ⟨S32x1, .i32⟩
  | 119 => ⟨S1x32, .i32⟩
  | 120 => ⟨S32x32, .i32⟩
  | 121 => ⟨S32x32, .i32⟩
  | 122 => ⟨S32x32, .i1⟩
  | 123 => ⟨S32x32, .i1⟩
  | 124 => ⟨S_, .f32⟩
  | 125 => ⟨S32x32, .f32⟩
  | 126 => ⟨S32x32, .f32⟩
  | 127 => ⟨S_, .f32⟩
  | _ => ⟨S4x32x512x512, .f32⟩

abbrev hbmTy0_3 (i : Nat) : BufTy := match i % 128 with
  | 0 => ⟨S32x32, .f32⟩
  | 1 => ⟨S32x32, .f32⟩
  | 2 => ⟨S32x32, .f32⟩
  | 3 => ⟨S32x32, .f32⟩
  | 4 => ⟨S_, .f32⟩
  | 5 => ⟨S_, .f32⟩
  | 6 => ⟨S_, .f32⟩
  | 7 => ⟨S_, .f32⟩
  | 8 => ⟨S32x32, .f32⟩
  | 9 => ⟨S32x32, .f32⟩
  | 10 => ⟨S_, .f32⟩
  | 11 => ⟨S_, .f32⟩
  | 12 => ⟨S_, .f32⟩
  | 13 => ⟨S_, .f32⟩
  | 14 => ⟨S_, .f32⟩
  | 15 => ⟨S32x32, .f32⟩
  | 16 => ⟨S_, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S_, .f32⟩
  | 24 => ⟨S32, .f32⟩
  | 25 => ⟨S32, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i1⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S1x32x262144, .f32⟩
  | 42 => ⟨S32x262144, .f32⟩
  | 43 => ⟨S1x262144, .i32⟩
  | 44 => ⟨S262144, .i32⟩
  | 45 => ⟨S32, .i32⟩
  | 46 => ⟨S_, .f32⟩
  | 47 => ⟨S262144, .f32⟩
  | 48 => ⟨S_, .f32⟩
  | 49 => ⟨S32, .f32⟩
  | 50 => ⟨S262144x1, .i32⟩
  | 51 => ⟨S32, .f32⟩
  | 52 => ⟨S262144x32, .f32⟩
  | 53 => ⟨S_, .f32⟩
  | 54 => ⟨S32x32, .f32⟩
  | 55 => ⟨S262144x1, .i32⟩
  | 56 => ⟨S32x32, .f32⟩
  | 57 => ⟨S_, .f32⟩
  | 58 => ⟨S32, .f32⟩
  | 59 => ⟨S32, .f32⟩
  | 60 => ⟨S32x1, .f32⟩
  | 61 => ⟨S32x32, .f32⟩
  | 62 => ⟨S32x32, .f32⟩
  | 63 => ⟨S_, .f32⟩
  | 64 => ⟨S32, .f32⟩
  | 65 => ⟨S32, .i1⟩
  | 66 => ⟨S_, .i32⟩
  | 67 => ⟨S32, .i32⟩
  | 68 => ⟨S32, .i1⟩
  | 69 => ⟨S32, .i1⟩
  | 70 => ⟨S32, .f32⟩
  | 71 => ⟨S_, .f32⟩
  | 72 => ⟨S_, .f32⟩
  | 73 => ⟨S_, .i32⟩
  | 74 => ⟨S262144, .i32⟩
  | 75 => ⟨S262144, .i1⟩
  | 76 => ⟨S_, .i32⟩
  | 77 => ⟨S262144, .i32⟩
  | 78 => ⟨S262144, .i32⟩
  | 79 => ⟨S262144, .i32⟩
  | 80 => ⟨S262144x1, .i32⟩
  | 81 => ⟨S262144x32, .f32⟩
  | 82 => ⟨S262144x32, .f32⟩
  | 83 => ⟨S262144x32, .f32⟩
  | 84 => ⟨S262144x32, .f32⟩
  | 85 => ⟨S_, .f32⟩
  | 86 => ⟨S262144, .f32⟩
  | 87 => ⟨S_, .f32⟩
  | 88 => ⟨S262144, .f32⟩
  | 89 => ⟨S262144, .f32⟩
  | 90 => ⟨S262144, .f32⟩
  | 91 => ⟨S_, .f32⟩
  | 92 => ⟨S262144, .f32⟩
  | 93 => ⟨S262144, .f32⟩
  | 94 => ⟨S_, .f32⟩
  | 95 => ⟨S262144, .f32⟩
  | 96 => ⟨S262144, .f32⟩
  | 97 => ⟨S262144, .f32⟩
  | 98 => ⟨S_, .f32⟩
  | 99 => ⟨S32, .f32⟩
  | 100 => ⟨S262144x1, .i32⟩
  | 101 => ⟨S32, .f32⟩
  | 102 => ⟨S32, .f32⟩
  | 103 => ⟨S_, .f32⟩
  | 104 => ⟨S_, .f32⟩
  | 105 => ⟨S32, .f32⟩
  | 106 => ⟨S32, .f32⟩
  | 107 => ⟨S_, .f32⟩
  | 108 => ⟨S_, .f32⟩
  | 109 => ⟨S_, .f32⟩
  | 110 => ⟨S_, .f32⟩
  | 111 => ⟨S_, .f32⟩
  | 112 => ⟨S32x1x32, .f32⟩
  | 113 => ⟨S1x32x32, .f32⟩
  | 114 => ⟨S32x32x32, .f32⟩
  | 115 => ⟨S32x32x32, .f32⟩
  | 116 => ⟨S32x32x32, .f32⟩
  | 117 => ⟨S32x32x32, .f32⟩
  | 118 => ⟨S_, .f32⟩
  | 119 => ⟨S32x32, .f32⟩
  | 120 => ⟨S_, .f32⟩
  | 121 => ⟨S32x32, .f32⟩
  | 122 => ⟨S32x32, .f32⟩
  | 123 => ⟨S32x32, .f32⟩
  | 124 => ⟨S32x1, .i1⟩
  | 125 => ⟨S1x32, .i1⟩
  | 126 => ⟨S32x32, .i1⟩
  | 127 => ⟨S32x32, .i1⟩
  | _ => ⟨S4x32x512x512, .f32⟩

abbrev hbmTy0_4 (i : Nat) : BufTy := match i % 128 with
  | 0 => ⟨S32x32, .i1⟩
  | 1 => ⟨S32x1, .i32⟩
  | 2 => ⟨S1x32, .i32⟩
  | 3 => ⟨S32x32, .i32⟩
  | 4 => ⟨S32x32, .i32⟩
  | 5 => ⟨S32x32, .i1⟩
  | 6 => ⟨S32x32, .i1⟩
  | 7 => ⟨S_, .f32⟩
  | 8 => ⟨S32x32, .f32⟩
  | 9 => ⟨S32x32, .f32⟩
  | 10 => ⟨S_, .f32⟩
  | 11 => ⟨S32x32, .f32⟩
  | 12 => ⟨S32x32, .f32⟩
  | 13 => ⟨S32x32, .f32⟩
  | 14 => ⟨S32x32, .f32⟩
  | 15 => ⟨S_, .f32⟩
  | 16 => ⟨S_, .f32⟩
  | 17 => ⟨S_, .f32⟩
  | 18 => ⟨S_, .f32⟩
  | 19 => ⟨S32x32, .f32⟩
  | 20 => ⟨S32x32, .f32⟩
  | 21 => ⟨S_, .f32⟩
  | 22 => ⟨S_, .f32⟩
  | 23 => ⟨S_, .f32⟩
  | 24 => ⟨S_, .f32⟩
  | 25 => ⟨S_, .f32⟩
  | 26 => ⟨S32x32, .f32⟩
  | 27 => ⟨S_, .f32⟩
  | 28 => ⟨S32, .f32⟩
  | 29 => ⟨S_, .f32⟩
  | 30 => ⟨S32, .f32⟩
  | 31 => ⟨S32, .f32⟩
  | 32 => ⟨S32, .f32⟩
  | 33 => ⟨S_, .f32⟩
  | 34 => ⟨S_, .f32⟩
  | 35 => ⟨S32, .f32⟩
  | 36 => ⟨S32, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i1⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | _ => ⟨S4x32x512x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4x32x512x512, .f32⟩

abbrev bufTy : (tb : Table) → Fin (tcTables nBuf tb) → BufTy
  | .hbm, ⟨i, _⟩ => hbmTy i
  | _, _ => ⟨S4x32x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_4 : Ref sig .tc := ⟨.hbm, 34, rfl⟩
abbrev main_v26 : Ref sig .tc := ⟨.hbm, 35, rfl⟩
abbrev main_c_5 : Ref sig .tc := ⟨.hbm, 36, rfl⟩
abbrev main_v27 : Ref sig .tc := ⟨.hbm, 37, rfl⟩
abbrev main_v28 : Ref sig .tc := ⟨.hbm, 38, rfl⟩
abbrev main_c_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_9 : Ref sig .tc := ⟨.hbm, 54, rfl⟩
abbrev main_v41 : Ref sig .tc := ⟨.hbm, 55, rfl⟩
abbrev main_v42 : Ref sig .tc := ⟨.hbm, 56, rfl⟩
abbrev main_cst_10 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_11 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_12 : Ref sig .tc := ⟨.hbm, 66, rfl⟩
abbrev main_call0_v0 : Ref sig .tc := ⟨.hbm, 67, rfl⟩
abbrev main_call0_v1 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_cst_14 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_15 : Ref sig .tc := ⟨.hbm, 81, rfl⟩
abbrev main_v60 : Ref sig .tc := ⟨.hbm, 82, rfl⟩
abbrev main_cst_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_17 : Ref sig .tc := ⟨.hbm, 98, rfl⟩
abbrev main_v75 : Ref sig .tc := ⟨.hbm, 99, rfl⟩
abbrev main_v76 : Ref sig .tc := ⟨.hbm, 100, rfl⟩
abbrev main_cst_18 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_19 : Ref sig .tc := ⟨.hbm, 106, rfl⟩
abbrev main_v81 : Ref sig .tc := ⟨.hbm, 107, rfl⟩
abbrev main_cst_20 : Ref sig .tc := ⟨.hbm, 108, rfl⟩
abbrev main_call1_v0 : Ref sig .tc := ⟨.hbm, 109, rfl⟩
abbrev main_call1_v1 : Ref sig .tc := ⟨.hbm, 110, rfl⟩
abbrev main_v82 : Ref sig .tc := ⟨.hbm, 111, rfl⟩
abbrev main_cst_21 : Ref sig .tc := ⟨.hbm, 112, rfl⟩
abbrev main_v83 : Ref sig .tc := ⟨.hbm, 113, rfl⟩
abbrev main_cst_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_23 : Ref sig .tc := ⟨.hbm, 118, rfl⟩
abbrev main_v87 : Ref sig .tc := ⟨.hbm, 119, rfl⟩
abbrev main_cst_24 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_cst_25 : Ref sig .tc := ⟨.hbm, 124, rfl⟩
abbrev main_call2_v0 : Ref sig .tc := ⟨.hbm, 125, rfl⟩
abbrev main_call2_v1 : Ref sig .tc := ⟨.hbm, 126, rfl⟩
abbrev main_v91 : Ref sig .tc := ⟨.hbm, 127, rfl⟩
abbrev main_cst_26 : Ref sig .tc := ⟨.hbm, 128, rfl⟩
abbrev main_v92 : Ref sig .tc := ⟨.hbm, 129, rfl⟩
abbrev main_cst_27 : Ref sig .tc := ⟨.hbm, 130, rfl⟩
abbrev main_v93 : Ref sig .tc := ⟨.hbm, 131, rfl⟩
abbrev main_v94 : Ref sig .tc := ⟨.hbm, 132, rfl⟩
abbrev main_cst_28 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_29 : Ref sig .tc := ⟨.hbm, 139, rfl⟩
abbrev main_v100 : Ref sig .tc := ⟨.hbm, 140, rfl⟩
abbrev main_cst_30 : Ref sig .tc := ⟨.hbm, 141, rfl⟩
abbrev main_v101 : Ref sig .tc := ⟨.hbm, 142, rfl⟩
abbrev main_cst_31 : Ref sig .tc := ⟨.hbm, 143, rfl⟩
abbrev main_v102 : Ref sig .tc := ⟨.hbm, 144, rfl⟩
abbrev main_cst_32 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_33 : Ref sig .tc := ⟨.hbm, 152, rfl⟩
abbrev main_v109 : Ref sig .tc := ⟨.hbm, 153, rfl⟩
abbrev main_cst_34 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_35 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_cst_36 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_cst_37 : Ref sig .tc := ⟨.hbm, 169, rfl⟩
abbrev main_v122 : Ref sig .tc := ⟨.hbm, 170, rfl⟩
abbrev main_v123 : Ref sig .tc := ⟨.hbm, 171, rfl⟩
abbrev main_c_38 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_39 : Ref sig .tc := ⟨.hbm, 177, rfl⟩
abbrev main_v128 : Ref sig .tc := ⟨.hbm, 178, rfl⟩
abbrev main_c_40 : Ref sig .tc := ⟨.hbm, 179, rfl⟩
abbrev main_v129 : Ref sig .tc := ⟨.hbm, 180, rfl⟩
abbrev main_v130 : Ref sig .tc := ⟨.hbm, 181, rfl⟩
abbrev main_c_41 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_42 : Ref sig .tc := ⟨.hbm, 191, rfl⟩
abbrev main_v139 : Ref sig .tc := ⟨.hbm, 192, rfl⟩
abbrev main_cst_43 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_cst_44 : Ref sig .tc := ⟨.hbm, 197, rfl⟩
abbrev main_v143 : Ref sig .tc := ⟨.hbm, 198, rfl⟩
abbrev main_v144 : Ref sig .tc := ⟨.hbm, 199, rfl⟩
abbrev main_cst_45 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_46 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_cst_47 : Ref sig .tc := ⟨.hbm, 209, rfl⟩
abbrev main_call3_v0 : Ref sig .tc := ⟨.hbm, 210, rfl⟩
abbrev main_call3_v1 : Ref sig .tc := ⟨.hbm, 211, rfl⟩
abbrev main_v152 : Ref sig .tc := ⟨.hbm, 212, rfl⟩
abbrev main_cst_48 : Ref sig .tc := ⟨.hbm, 213, rfl⟩
abbrev main_v153 : Ref sig .tc := ⟨.hbm, 214, rfl⟩
abbrev main_cst_49 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_cst_50 : Ref sig .tc := ⟨.hbm, 224, rfl⟩
abbrev main_v162 : Ref sig .tc := ⟨.hbm, 225, rfl⟩
abbrev main_cst_51 : Ref sig .tc := ⟨.hbm, 226, rfl⟩
abbrev main_v163 : Ref sig .tc := ⟨.hbm, 227, rfl⟩
abbrev main_v164 : Ref sig .tc := ⟨.hbm, 228, rfl⟩
abbrev main_v165 : Ref sig .tc := ⟨.hbm, 229, rfl⟩
abbrev main_v166 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_cst_52 : Ref sig .tc := ⟨.hbm, 241, rfl⟩
abbrev main_v177 : Ref sig .tc := ⟨.hbm, 242, rfl⟩
abbrev main_v178 : Ref sig .tc := ⟨.hbm, 243, rfl⟩
abbrev main_cst_53 : Ref sig .tc := ⟨.hbm, 244, rfl⟩
abbrev main_v179 : Ref sig .tc := ⟨.hbm, 245, rfl⟩
abbrev main_v180 : Ref sig .tc := ⟨.hbm, 246, rfl⟩
abbrev main_v181 : Ref sig .tc := ⟨.hbm, 247, rfl⟩
abbrev main_v182 : Ref sig .tc := ⟨.hbm, 248, rfl⟩
abbrev main_cst_54 : Ref sig .tc := ⟨.hbm, 249, rfl⟩
abbrev main_v183 : Ref sig .tc := ⟨.hbm, 250, rfl⟩
abbrev main_cst_55 : Ref sig .tc := ⟨.hbm, 251, rfl⟩
abbrev main_call4_v0 : Ref sig .tc := ⟨.hbm, 252, rfl⟩
abbrev main_call4_v1 : Ref sig .tc := ⟨.hbm, 253, rfl⟩
abbrev main_v184 : Ref sig .tc := ⟨.hbm, 254, rfl⟩
abbrev main_cst_56 : Ref sig .tc := ⟨.hbm, 255, rfl⟩
abbrev main_v185 : Ref sig .tc := ⟨.hbm, 256, rfl⟩
abbrev main_cst_57 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_cst_58 : Ref sig .tc := ⟨.hbm, 261, rfl⟩
abbrev main_v189 : Ref sig .tc := ⟨.hbm, 262, rfl⟩
abbrev main_cst_59 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_cst_60 : Ref sig .tc := ⟨.hbm, 267, rfl⟩
abbrev main_call5_v0 : Ref sig .tc := ⟨.hbm, 268, rfl⟩
abbrev main_call5_v1 : Ref sig .tc := ⟨.hbm, 269, rfl⟩
abbrev main_v193 : Ref sig .tc := ⟨.hbm, 270, rfl⟩
abbrev main_cst_61 : Ref sig .tc := ⟨.hbm, 271, rfl⟩
abbrev main_v194 : Ref sig .tc := ⟨.hbm, 272, rfl⟩
abbrev main_cst_62 : Ref sig .tc := ⟨.hbm, 273, rfl⟩
abbrev main_v195 : Ref sig .tc := ⟨.hbm, 274, rfl⟩
abbrev main_v196 : Ref sig .tc := ⟨.hbm, 275, rfl⟩
abbrev main_cst_63 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_v203 : Ref sig .tc := ⟨.hbm, 283, rfl⟩
abbrev main_v204 : Ref sig .tc := ⟨.hbm, 284, rfl⟩
abbrev main_v205 : Ref sig .tc := ⟨.hbm, 285, rfl⟩
abbrev main_v206 : Ref sig .tc := ⟨.hbm, 286, rfl⟩
abbrev main_v207 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_cst_64 : Ref sig .tc := ⟨.hbm, 291, rfl⟩
abbrev main_v211 : Ref sig .tc := ⟨.hbm, 292, rfl⟩
abbrev main_cst_65 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_cst_66 : Ref sig .tc := ⟨.hbm, 298, rfl⟩
abbrev main_v216 : Ref sig .tc := ⟨.hbm, 299, rfl⟩
abbrev main_v217 : Ref sig .tc := ⟨.hbm, 300, rfl⟩
abbrev main_v218 : Ref sig .tc := ⟨.hbm, 301, rfl⟩
abbrev main_cst_67 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_cst_68 : Ref sig .tc := ⟨.hbm, 308, rfl⟩
abbrev main_v224 : Ref sig .tc := ⟨.hbm, 309, rfl⟩
abbrev main_v225 : Ref sig .tc := ⟨.hbm, 310, rfl⟩
abbrev main_c_69 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_cst_70 : Ref sig .tc := ⟨.hbm, 316, rfl⟩
abbrev main_v230 : Ref sig .tc := ⟨.hbm, 317, rfl⟩
abbrev main_c_71 : Ref sig .tc := ⟨.hbm, 318, rfl⟩
abbrev main_v231 : Ref sig .tc := ⟨.hbm, 319, rfl⟩
abbrev main_v232 : Ref sig .tc := ⟨.hbm, 320, rfl⟩
abbrev main_c_72 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_v239 : Ref sig .tc := ⟨.hbm, 328, rfl⟩
abbrev main_v240 : Ref sig .tc := ⟨.hbm, 329, rfl⟩
abbrev main_cst_73 : Ref sig .tc := ⟨.hbm, 330, rfl⟩
abbrev main_v241 : Ref sig .tc := ⟨.hbm, 331, rfl⟩
abbrev main_cst_74 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_cst_75 : Ref sig .tc := ⟨.hbm, 336, rfl⟩
abbrev main_v245 : Ref sig .tc := ⟨.hbm, 337, rfl⟩
abbrev main_v246 : Ref sig .tc := ⟨.hbm, 338, rfl⟩
abbrev main_cst_76 : Ref sig .tc := ⟨.hbm, 339, rfl⟩
abbrev main_v247 : Ref sig .tc := ⟨.hbm, 340, rfl⟩
abbrev main_v248 : Ref sig .tc := ⟨.hbm, 341, rfl⟩
abbrev main_v249 : Ref sig .tc := ⟨.hbm, 342, rfl⟩
abbrev main_cst_77 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_cst_78 : Ref sig .tc := ⟨.hbm, 348, rfl⟩
abbrev main_call6_v0 : Ref sig .tc := ⟨.hbm, 349, rfl⟩
abbrev main_call6_v1 : Ref sig .tc := ⟨.hbm, 350, rfl⟩
abbrev main_v254 : Ref sig .tc := ⟨.hbm, 351, rfl⟩
abbrev main_cst_79 : Ref sig .tc := ⟨.hbm, 352, rfl⟩
abbrev main_v255 : Ref sig .tc := ⟨.hbm, 353, rfl⟩
abbrev main_cst_80 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_v262 : Ref sig .tc := ⟨.hbm, 361, rfl⟩
abbrev main_v263 : Ref sig .tc := ⟨.hbm, 362, rfl⟩
abbrev main_cst_81 : Ref sig .tc := ⟨.hbm, 363, rfl⟩
abbrev main_v264 : Ref sig .tc := ⟨.hbm, 364, rfl⟩
abbrev main_cst_82 : Ref sig .tc := ⟨.hbm, 365, rfl⟩
abbrev main_v265 : Ref sig .tc := ⟨.hbm, 366, rfl⟩
abbrev main_v266 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_v277 : Ref sig .tc := ⟨.hbm, 378, rfl⟩
abbrev main_v278 : Ref sig .tc := ⟨.hbm, 379, rfl⟩
abbrev main_cst_83 : Ref sig .tc := ⟨.hbm, 380, rfl⟩
abbrev main_v279 : Ref sig .tc := ⟨.hbm, 381, rfl⟩
abbrev main_v280 : Ref sig .tc := ⟨.hbm, 382, rfl⟩
abbrev main_cst_84 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_cst_85 : Ref sig .tc := ⟨.hbm, 388, rfl⟩
abbrev main_v285 : Ref sig .tc := ⟨.hbm, 389, rfl⟩
abbrev main_cst_86 : Ref sig .tc := ⟨.hbm, 390, rfl⟩
abbrev main_call7_v0 : Ref sig .tc := ⟨.hbm, 391, rfl⟩
abbrev main_call7_v1 : Ref sig .tc := ⟨.hbm, 392, rfl⟩
abbrev main_v286 : Ref sig .tc := ⟨.hbm, 393, rfl⟩
abbrev main_cst_87 : Ref sig .tc := ⟨.hbm, 394, rfl⟩
abbrev main_v287 : Ref sig .tc := ⟨.hbm, 395, rfl⟩
abbrev main_cst_88 : Ref sig .tc := ⟨.hbm, 396, rfl⟩
abbrev main_v288 : Ref sig .tc := ⟨.hbm, 397, rfl⟩
abbrev main_v289 : Ref sig .tc := ⟨.hbm, 398, rfl⟩
abbrev main_v290 : Ref sig .tc := ⟨.hbm, 399, rfl⟩
abbrev main_cst_89 : Ref sig .tc := ⟨.hbm, 400, rfl⟩
abbrev main_v291 : Ref sig .tc := ⟨.hbm, 401, rfl⟩
abbrev main_cst_90 : Ref sig .tc := ⟨.hbm, 402, rfl⟩
abbrev main_v292 : Ref sig .tc := ⟨.hbm, 403, rfl⟩
abbrev main_v293 : Ref sig .tc := ⟨.hbm, 404, rfl⟩
abbrev main_v294 : Ref sig .tc := ⟨.hbm, 405, rfl⟩
abbrev main_cst_91 : Ref sig .tc := ⟨.hbm, 406, rfl⟩
abbrev main_call8_v0 : Ref sig .tc := ⟨.hbm, 407, rfl⟩
abbrev main_call8_v1 : Ref sig .tc := ⟨.hbm, 408, rfl⟩
abbrev main_v295 : Ref sig .tc := ⟨.hbm, 409, rfl⟩
abbrev main_cst_92 : Ref sig .tc := ⟨.hbm, 410, rfl⟩
abbrev main_v296 : Ref sig .tc := ⟨.hbm, 411, rfl⟩
abbrev main_cst_93 : Ref sig .tc := ⟨.hbm, 412, rfl⟩
abbrev main_v297 : Ref sig .tc := ⟨.hbm, 413, rfl⟩
abbrev main_v298 : Ref sig .tc := ⟨.hbm, 414, rfl⟩
abbrev main_cst_94 : Ref sig .tc := ⟨.hbm, 415, rfl⟩
abbrev main_v299 : Ref sig .tc := ⟨.hbm, 416, rfl⟩
abbrev main_v300 : Ref sig .tc := ⟨.hbm, 417, rfl⟩
abbrev main_v301 : Ref sig .tc := ⟨.hbm, 418, rfl⟩
abbrev main_v302 : Ref sig .tc := ⟨.hbm, 419, rfl⟩
abbrev main_v303 : Ref sig .tc := ⟨.hbm, 420, rfl⟩
abbrev main_v304 : Ref sig .tc := ⟨.hbm, 421, rfl⟩
abbrev main_v305 : Ref sig .tc := ⟨.hbm, 422, rfl⟩
abbrev main_v306 : Ref sig .tc := ⟨.hbm, 423, rfl⟩
abbrev main_v307 : Ref sig .tc := ⟨.hbm, 424, rfl⟩
abbrev main_v308 : Ref sig .tc := ⟨.hbm, 425, rfl⟩
abbrev main_v309 : Ref sig .tc := ⟨.hbm, 426, rfl⟩
abbrev main_v310 : Ref sig .tc := ⟨.hbm, 427, rfl⟩
abbrev main_v311 : Ref sig .tc := ⟨.hbm, 428, rfl⟩
abbrev main_v312 : Ref sig .tc := ⟨.hbm, 429, rfl⟩
abbrev main_cst_95 : Ref sig .tc := ⟨.hbm, 430, rfl⟩
abbrev main_v313 : Ref sig .tc := ⟨.hbm, 431, rfl⟩
abbrev main_cst_96 : Ref sig .tc := ⟨.hbm, 432, rfl⟩
abbrev main_v314 : Ref sig .tc := ⟨.hbm, 433, rfl⟩
abbrev main_v315 : Ref sig .tc := ⟨.hbm, 434, rfl⟩
abbrev main_v316 : Ref sig .tc := ⟨.hbm, 435, rfl⟩
abbrev main_v317 : Ref sig .tc := ⟨.hbm, 436, rfl⟩
abbrev main_cst_97 : Ref sig .tc := ⟨.hbm, 437, rfl⟩
abbrev main_v318 : Ref sig .tc := ⟨.hbm, 438, rfl⟩
abbrev main_v319 : Ref sig .tc := ⟨.hbm, 439, rfl⟩
abbrev main_v320 : Ref sig .tc := ⟨.hbm, 440, rfl⟩
abbrev main_cst_98 : Ref sig .tc := ⟨.hbm, 441, rfl⟩
abbrev main_v321 : Ref sig .tc := ⟨.hbm, 442, rfl⟩
abbrev main_v322 : Ref sig .tc := ⟨.hbm, 443, rfl⟩
abbrev main_v323 : Ref sig .tc := ⟨.hbm, 444, rfl⟩
abbrev main_v324 : Ref sig .tc := ⟨.hbm, 445, rfl⟩
abbrev main_v325 : Ref sig .tc := ⟨.hbm, 446, rfl⟩
abbrev main_cst_99 : Ref sig .tc := ⟨.hbm, 447, rfl⟩
abbrev main_v326 : Ref sig .tc := ⟨.hbm, 448, rfl⟩
abbrev main_v327 : Ref sig .tc := ⟨.hbm, 449, rfl⟩
abbrev main_c_100 : Ref sig .tc := ⟨.hbm, 450, rfl⟩
abbrev main_v328 : Ref sig .tc := ⟨.hbm, 451, rfl⟩
abbrev main_v329 : Ref sig .tc := ⟨.hbm, 452, rfl⟩
abbrev main_v330 : Ref sig .tc := ⟨.hbm, 453, rfl⟩
abbrev main_v331 : Ref sig .tc := ⟨.hbm, 454, rfl⟩
abbrev main_cst_101 : Ref sig .tc := ⟨.hbm, 455, rfl⟩
abbrev main_v332 : Ref sig .tc := ⟨.hbm, 456, rfl⟩
abbrev main_c_102 : Ref sig .tc := ⟨.hbm, 457, rfl⟩
abbrev main_v333 : Ref sig .tc := ⟨.hbm, 458, rfl⟩
abbrev main_v334 : Ref sig .tc := ⟨.hbm, 459, rfl⟩
abbrev main_c_103 : Ref sig .tc := ⟨.hbm, 460, rfl⟩
abbrev main_v335 : Ref sig .tc := ⟨.hbm, 461, rfl⟩
abbrev main_v336 : Ref sig .tc := ⟨.hbm, 462, rfl⟩
abbrev main_v337 : Ref sig .tc := ⟨.hbm, 463, rfl⟩
abbrev main_v338 : Ref sig .tc := ⟨.hbm, 464, rfl⟩
abbrev main_v339 : Ref sig .tc := ⟨.hbm, 465, rfl⟩
abbrev main_v340 : Ref sig .tc := ⟨.hbm, 466, rfl⟩
abbrev main_v341 : Ref sig .tc := ⟨.hbm, 467, rfl⟩
abbrev main_v342 : Ref sig .tc := ⟨.hbm, 468, rfl⟩
abbrev main_cst_104 : Ref sig .tc := ⟨.hbm, 469, rfl⟩
abbrev main_v343 : Ref sig .tc := ⟨.hbm, 470, rfl⟩
abbrev main_cst_105 : Ref sig .tc := ⟨.hbm, 471, rfl⟩
abbrev main_v344 : Ref sig .tc := ⟨.hbm, 472, rfl⟩
abbrev main_v345 : Ref sig .tc := ⟨.hbm, 473, rfl⟩
abbrev main_v346 : Ref sig .tc := ⟨.hbm, 474, rfl⟩
abbrev main_cst_106 : Ref sig .tc := ⟨.hbm, 475, rfl⟩
abbrev main_v347 : Ref sig .tc := ⟨.hbm, 476, rfl⟩
abbrev main_v348 : Ref sig .tc := ⟨.hbm, 477, rfl⟩
abbrev main_cst_107 : Ref sig .tc := ⟨.hbm, 478, rfl⟩
abbrev main_v349 : Ref sig .tc := ⟨.hbm, 479, rfl⟩
abbrev main_v350 : Ref sig .tc := ⟨.hbm, 480, rfl⟩
abbrev main_v351 : Ref sig .tc := ⟨.hbm, 481, rfl⟩
abbrev main_cst_108 : Ref sig .tc := ⟨.hbm, 482, rfl⟩
abbrev main_v352 : Ref sig .tc := ⟨.hbm, 483, rfl⟩
abbrev main_v353 : Ref sig .tc := ⟨.hbm, 484, rfl⟩
abbrev main_v354 : Ref sig .tc := ⟨.hbm, 485, rfl⟩
abbrev main_v355 : Ref sig .tc := ⟨.hbm, 486, rfl⟩
abbrev main_cst_109 : Ref sig .tc := ⟨.hbm, 487, rfl⟩
abbrev main_call9_v0 : Ref sig .tc := ⟨.hbm, 488, rfl⟩
abbrev main_call9_v1 : Ref sig .tc := ⟨.hbm, 489, rfl⟩
abbrev main_v356 : Ref sig .tc := ⟨.hbm, 490, rfl⟩
abbrev main_cst_110 : Ref sig .tc := ⟨.hbm, 491, rfl⟩
abbrev main_v357 : Ref sig .tc := ⟨.hbm, 492, rfl⟩
abbrev main_cst_111 : Ref sig .tc := ⟨.hbm, 493, rfl⟩
abbrev main_v358 : Ref sig .tc := ⟨.hbm, 494, rfl⟩
abbrev main_v359 : Ref sig .tc := ⟨.hbm, 495, rfl⟩
abbrev main_v360 : Ref sig .tc := ⟨.hbm, 496, rfl⟩
abbrev main_v361 : Ref sig .tc := ⟨.hbm, 497, rfl⟩
abbrev main_v362 : Ref sig .tc := ⟨.hbm, 498, rfl⟩
abbrev main_v363 : Ref sig .tc := ⟨.hbm, 499, rfl⟩
abbrev main_v364 : Ref sig .tc := ⟨.hbm, 500, rfl⟩
abbrev main_v365 : Ref sig .tc := ⟨.hbm, 501, rfl⟩
abbrev main_cst_112 : Ref sig .tc := ⟨.hbm, 502, rfl⟩
abbrev main_v366 : Ref sig .tc := ⟨.hbm, 503, rfl⟩
abbrev main_cst_113 : Ref sig .tc := ⟨.hbm, 504, rfl⟩
abbrev main_v367 : Ref sig .tc := ⟨.hbm, 505, rfl⟩
abbrev main_v368 : Ref sig .tc := ⟨.hbm, 506, rfl⟩
abbrev main_v369 : Ref sig .tc := ⟨.hbm, 507, rfl⟩
abbrev main_v370 : Ref sig .tc := ⟨.hbm, 508, rfl⟩
abbrev main_v371 : Ref sig .tc := ⟨.hbm, 509, rfl⟩
abbrev main_v372 : Ref sig .tc := ⟨.hbm, 510, rfl⟩
abbrev main_v373 : Ref sig .tc := ⟨.hbm, 511, rfl⟩
abbrev main_v374 : Ref sig .tc := ⟨.hbm, 512, rfl⟩
abbrev main_v375 : Ref sig .tc := ⟨.hbm, 513, rfl⟩
abbrev main_v376 : Ref sig .tc := ⟨.hbm, 514, rfl⟩
abbrev main_v377 : Ref sig .tc := ⟨.hbm, 515, rfl⟩
abbrev main_v378 : Ref sig .tc := ⟨.hbm, 516, rfl⟩
abbrev main_v379 : Ref sig .tc := ⟨.hbm, 517, rfl⟩
abbrev main_v380 : Ref sig .tc := ⟨.hbm, 518, rfl⟩
abbrev main_cst_114 : Ref sig .tc := ⟨.hbm, 519, rfl⟩
abbrev main_v381 : Ref sig .tc := ⟨.hbm, 520, rfl⟩
abbrev main_v382 : Ref sig .tc := ⟨.hbm, 521, rfl⟩
abbrev main_cst_115 : Ref sig .tc := ⟨.hbm, 522, rfl⟩
abbrev main_v383 : Ref sig .tc := ⟨.hbm, 523, rfl⟩
abbrev main_v384 : Ref sig .tc := ⟨.hbm, 524, rfl⟩
abbrev main_v385 : Ref sig .tc := ⟨.hbm, 525, rfl⟩
abbrev main_v386 : Ref sig .tc := ⟨.hbm, 526, rfl⟩
abbrev main_cst_116 : Ref sig .tc := ⟨.hbm, 527, rfl⟩
abbrev main_v387 : Ref sig .tc := ⟨.hbm, 528, rfl⟩
abbrev main_cst_117 : Ref sig .tc := ⟨.hbm, 529, rfl⟩
abbrev main_call10_v0 : Ref sig .tc := ⟨.hbm, 530, rfl⟩
abbrev main_call10_v1 : Ref sig .tc := ⟨.hbm, 531, rfl⟩
abbrev main_v388 : Ref sig .tc := ⟨.hbm, 532, rfl⟩
abbrev main_cst_118 : Ref sig .tc := ⟨.hbm, 533, rfl⟩
abbrev main_v389 : Ref sig .tc := ⟨.hbm, 534, rfl⟩
abbrev main_cst_119 : Ref sig .tc := ⟨.hbm, 535, rfl⟩
abbrev main_v390 : Ref sig .tc := ⟨.hbm, 536, rfl⟩
abbrev main_v391 : Ref sig .tc := ⟨.hbm, 537, rfl⟩
abbrev main_v392 : Ref sig .tc := ⟨.hbm, 538, rfl⟩
abbrev main_cst_120 : Ref sig .tc := ⟨.hbm, 539, rfl⟩
abbrev main_v393 : Ref sig .tc := ⟨.hbm, 540, rfl⟩
abbrev main_cst_121 : Ref sig .tc := ⟨.hbm, 541, rfl⟩
abbrev main_v394 : Ref sig .tc := ⟨.hbm, 542, rfl⟩
abbrev main_v395 : Ref sig .tc := ⟨.hbm, 543, rfl⟩
abbrev main_v396 : Ref sig .tc := ⟨.hbm, 544, rfl⟩
abbrev main_cst_122 : Ref sig .tc := ⟨.hbm, 545, rfl⟩
abbrev main_call11_v0 : Ref sig .tc := ⟨.hbm, 546, rfl⟩
abbrev main_call11_v1 : Ref sig .tc := ⟨.hbm, 547, rfl⟩
abbrev main_v397 : Ref sig .tc := ⟨.hbm, 548, rfl⟩
abbrev main_cst_123 : Ref sig .tc := ⟨.hbm, 549, rfl⟩
abbrev main_v398 : Ref sig .tc := ⟨.hbm, 550, rfl⟩
abbrev main_cst_124 : Ref sig .tc := ⟨.hbm, 551, rfl⟩
abbrev main_v399 : Ref sig .tc := ⟨.hbm, 552, rfl⟩
abbrev main_v400 : Ref sig .tc := ⟨.hbm, 553, rfl⟩
abbrev main_cst_125 : Ref sig .tc := ⟨.hbm, 554, rfl⟩
abbrev main_v401 : Ref sig .tc := ⟨.hbm, 555, rfl⟩
abbrev main_v402 : Ref sig .tc := ⟨.hbm, 556, rfl⟩
abbrev main_v403 : Ref sig .tc := ⟨.hbm, 557, rfl⟩
abbrev main_v404 : Ref sig .tc := ⟨.hbm, 558, rfl⟩
abbrev main_v405 : Ref sig .tc := ⟨.hbm, 559, rfl⟩
abbrev main_v406 : Ref sig .tc := ⟨.hbm, 560, rfl⟩
abbrev main_v407 : Ref sig .tc := ⟨.hbm, 561, rfl⟩
abbrev main_v408 : Ref sig .tc := ⟨.hbm, 562, rfl⟩
abbrev main_v409 : Ref sig .tc := ⟨.hbm, 563, rfl⟩
abbrev main_cst_126 : Ref sig .tc := ⟨.hbm, 564, rfl⟩
abbrev main_v410 : Ref sig .tc := ⟨.hbm, 565, rfl⟩
abbrev main_v411 : Ref sig .tc := ⟨.hbm, 566, rfl⟩
abbrev main_v412 : Ref sig .tc := ⟨.hbm, 567, rfl⟩
abbrev main_v413 : Ref sig .tc := ⟨.hbm, 568, rfl⟩
abbrev main_cst_127 : Ref sig .tc := ⟨.hbm, 569, rfl⟩
abbrev main_v414 : Ref sig .tc := ⟨.hbm, 570, rfl⟩
abbrev main_cst_128 : Ref sig .tc := ⟨.hbm, 571, rfl⟩
abbrev main_v415 : Ref sig .tc := ⟨.hbm, 572, rfl⟩
abbrev main_v416 : Ref sig .tc := ⟨.hbm, 573, rfl⟩
abbrev main_cst_129 : Ref sig .tc := ⟨.hbm, 574, rfl⟩
abbrev main_v417 : Ref sig .tc := ⟨.hbm, 575, rfl⟩
abbrev main_v418 : Ref sig .tc := ⟨.hbm, 576, rfl⟩

abbrev nD : Nat := 1
abbrev τ : Topo := Topo.v7x

variable {F : FTy → Type} [FloatOps F]
-- ==== Proof.IGeo.lean ====
/-
  The kernel's own names: its scratch buffer cut in 8 column slots of 4 row pieces each, the array in HBM
  cut in 4 samples of 8 by 4 pieces, and the 8 by 4 DMA semaphores.  Every slice the body prints is one of
  these, and the pieces are disjoint and cover.
-/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameSuffix
public import Idealize.ShloMosaic.Lib.Pipeline.KitQuiescent
public import Idealize.ShloMosaic.Lib.Ring
public import Idealize.ShloMosaic.Lib.Affine
public import Idealize.ShloMosaic.Lib.Tactic
public import Idealize.ShloMosaic.Lib.ValueLayout
public import Idealize.ShloMosaic.Lib.ValueIdx

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev 𝒱₀ : Variants := Variants.none

/-! ## The pieces -/

/-- The array of the four samples, left in HBM. -/
abbrev hbM : Memref sig .tc .hbm S4x32x262144 .f32 := Memref.whole main_v0
/-- The scratch buffer holding one sample. -/
abbrev bufM : Memref sig .tc .vmem S32x262144 .f32 := Memref.whole cc0_scratch0

abbrev pieceOff (k : Fin 8) (j : Fin 4) : Fin 2 → Nat := ![8 * j.val, 32768 * k.val]
theorem pieceOff_inb (k : Fin 8) (j : Fin 4) : ∀ a, pieceOff k j a + S8x32768.size a ≤ S32x262144.size a := by
  have := k.isLt; have := j.isLt; intro a; fin_cases a
  · show 8 * j.val + 8 ≤ 32; omega
  · show 32768 * k.val + 32768 ≤ 262144; omega
abbrev slotOff (k : Fin 8) : Fin 2 → Nat := ![0, 32768 * k.val]
theorem slotOff_inb (k : Fin 8) : ∀ a, slotOff k a + S32x32768.size a ≤ S32x262144.size a := by
  have := k.isLt; intro a; fin_cases a
  · show 0 + 32 ≤ 32; omega
  · show 32768 * k.val + 32768 ≤ 262144; omega
abbrev srcOff (b : Fin 4) (k : Fin 8) (j : Fin 4) : Fin 3 → Nat := ![b.val, 8 * j.val, 32768 * k.val]
theorem srcOff_inb (b : Fin 4) (k : Fin 8) (j : Fin 4) : ∀ a, srcOff b k j a + S1x8x32768.size a ≤ S4x32x262144.size a := by
  have := b.isLt; have := k.isLt; have := j.isLt; intro a; fin_cases a
  · show b.val + 1 ≤ 4; omega
  · show 8 * j.val + 8 ≤ 32; omega
  · show 32768 * k.val + 32768 ≤ 262144; omega
abbrev semOff (k : Fin 8) (j : Fin 4) : Fin 2 → Nat := ![k.val, j.val]
theorem semOff_inb (k : Fin 8) (j : Fin 4) : ∀ a, semOff k j a + S1x1.size a ≤ S8x4.size a := by
  have := k.isLt; have := j.isLt; intro a; fin_cases a
  · show k.val + 1 ≤ 8; omega
  · show j.val + 1 ≤ 4; omega

/-- Rows `8j … 8j+7` of column slot `k` of the scratch buffer. -/
def piece (k : Fin 8) (j : Fin 4) : Memref sig .tc .vmem S8x32768 .f32 :=
  bufM.slice (Rect.unit (s := S32x262144) (pieceOff k j) S8x32768.size (pieceOff_inb k j)) (fun _ => rfl)
/-- Column slot `k` of the scratch buffer, all 32 rows. -/
abbrev slotM (k : Fin 8) : Memref sig .tc .vmem S32x32768 .f32 :=
  bufM.slice (Rect.unit (s := S32x262144) ![0, 32768 * k.val] S32x32768.size (slotOff_inb k)) (fun _ => rfl)
/-- The same piece of sample `b` in HBM. -/
def srcp (b : Fin 4) (k : Fin 8) (j : Fin 4) : Memref sig .tc .hbm S8x32768 .f32 :=
  (hbM.slice (Rect.unit (s := S4x32x262144) (srcOff b k j) S1x8x32768.size (srcOff_inb b k j)) (fun _ => rfl)).squeeze S8x32768 squeezes_S1x8x32768_S8x32768
/-- The DMA semaphore of piece `j` of slot `k`. -/
def csm (k : Fin 8) (j : Fin 4) : DmaSems sig S_ :=
  (cc0_scratch7.slice (Rect.unit (s := S8x4) (semOff k j) S1x1.size (semOff_inb k j))).squeeze S_ squeezes_S1x1_S_

instance (k : Fin 8) (j : Fin 4) : ClosedOff (pieceOff k j) := ⟨pieceOff k j, rfl⟩
instance (k : Fin 8) : ClosedOff (slotOff k) := ⟨![0, 32768 * k.val], rfl⟩
instance (b : Fin 4) (k : Fin 8) (j : Fin 4) : ClosedOff (srcOff b k j) := ⟨srcOff b k j, rfl⟩

/-! ## The printed slices are these -/

theorem csm_congr {off : Fin 2 → Nat} {k : Fin 8} {j : Fin 4} (e : off = semOff k j) (hh) :
    (cc0_scratch7.slice (Rect.unit (s := S8x4) off S1x1.size hh)).squeeze S_ squeezes_S1x1_S_ = csm k j :=
  congrArg (fun A : DmaSems sig S1x1 => A.squeeze S_ squeezes_S1x1_S_) (SemArray.slice_unit_congr _ e _ _)
theorem piece_congr {off : Fin 2 → Nat} {k : Fin 8} {j : Fin 4} (e : off = pieceOff k j) (hh hs) :
    bufM.slice (Rect.unit (s := S32x262144) off S8x32768.size hh) hs = piece k j :=
  Memref.slice_unit_congr _ e _ _ _ (fun _ => rfl)
theorem srcp_congr {off : Fin 3 → Nat} {b : Fin 4} {k : Fin 8} {j : Fin 4} (e : off = srcOff b k j) (hh hs) :
    (hbM.slice (Rect.unit (s := S4x32x262144) off S1x8x32768.size hh) hs).squeeze S8x32768 squeezes_S1x8x32768_S8x32768 = srcp b k j :=
  congrArg (fun M : Memref sig .tc .hbm S1x8x32768 .f32 => M.squeeze S8x32768 squeezes_S1x8x32768_S8x32768) (Memref.slice_unit_congr _ e _ _ _ _)

section Canon
variable (i : grid0.Coords)

instance : ClosedOff (k0_off13 i) := ⟨![0, 32768 * (i 2).val], k0_off13_eq i⟩
instance : ClosedOff (k0_off14 i) := ⟨![0, 32768 * (i 2).val], k0_off14_eq i⟩

@[sl_canon] theorem semW0 (hh) : (cc0_scratch7.slice (Rect.unit (s := S8x4) (k0_off1 i) S1x1.size hh)).squeeze S_ squeezes_S1x1_S_ = csm (i 2) 0 := csm_congr (k0_off1_eq i) _
@[sl_canon] theorem semW1 (hh) : (cc0_scratch7.slice (Rect.unit (s := S8x4) (k0_off4 i) S1x1.size hh)).squeeze S_ squeezes_S1x1_S_ = csm (i 2) 1 := csm_congr (k0_off4_eq i) _
@[sl_canon] theorem semW2 (hh) : (cc0_scratch7.slice (Rect.unit (s := S8x4) (k0_off7 i) S1x1.size hh)).squeeze S_ squeezes_S1x1_S_ = csm (i 2) 2 := csm_congr (k0_off7_eq i) _
@[sl_canon] theorem semW3 (hh) : (cc0_scratch7.slice (Rect.unit (s := S8x4) (k0_off10 i) S1x1.size hh)).squeeze S_ squeezes_S1x1_S_ = csm (i 2) 3 := csm_congr (k0_off10_eq i) _
@[sl_canon] theorem pieceW0 (hh hs) : bufM.slice (Rect.unit (s := S32x262144) (k0_off2 i) S8x32768.size hh) hs = piece (i 2) 0 := piece_congr (k0_off2_eq i) _ _
@[sl_canon] theorem pieceW1 (hh hs) : bufM.slice (Rect.unit (s := S32x262144) (k0_off5 i) S8x32768.size hh) hs = piece (i 2) 1 := piece_congr (k0_off5_eq i) _ _
@[sl_canon] theorem pieceW2 (hh hs) : bufM.slice (Rect.unit (s := S32x262144) (k0_off8 i) S8x32768.size hh) hs = piece (i 2) 2 := piece_congr (k0_off8_eq i) _ _
@[sl_canon] theorem pieceW3 (hh hs) : bufM.slice (Rect.unit (s := S32x262144) (k0_off11 i) S8x32768.size hh) hs = piece (i 2) 3 := piece_congr (k0_off11_eq i) _ _
@[sl_canon] theorem srcW0 (hh hs) : (hbM.slice (Rect.unit (s := S4x32x262144) (k0_off3 i) S1x8x32768.size hh) hs).squeeze S8x32768 squeezes_S1x8x32768_S8x32768 = srcp (i 0) (i 2) 0 := srcp_congr (k0_off3_eq i) _ _
@[sl_canon] theorem srcW1 (hh hs) : (hbM.slice (Rect.unit (s := S4x32x262144) (k0_off6 i) S1x8x32768.size hh) hs).squeeze S8x32768 squeezes_S1x8x32768_S8x32768 = srcp (i 0) (i 2) 1 := srcp_congr (k0_off6_eq i) _ _
@[sl_canon] theorem srcW2 (hh hs) : (hbM.slice (Rect.unit (s := S4x32x262144) (k0_off9 i) S1x8x32768.size hh) hs).squeeze S8x32768 squeezes_S1x8x32768_S8x32768 = srcp (i 0) (i 2) 2 := srcp_congr (k0_off9_eq i) _ _
@[sl_canon] theorem srcW3 (hh hs) : (hbM.slice (Rect.unit (s := S4x32x262144) (k0_off12 i) S1x8x32768.size hh) hs).squeeze S8x32768 squeezes_S1x8x32768_S8x32768 = srcp (i 0) (i 2) 3 := srcp_congr (k0_off12_eq i) _ _

@[sl_canon] theorem semP0 (hh) : (cc0_scratch7.slice (Rect.unit (s := S8x4) (k0_off15 i) S1x1.size hh)).squeeze S_ squeezes_S1x1_S_ = csm (i 2) 0 := csm_congr (k0_off15_eq i) _
@[sl_canon] theorem semP1 (hh) : (cc0_scratch7.slice (Rect.unit (s := S8x4) (k0_off18 i) S1x1.size hh)).squeeze S_ squeezes_S1x1_S_ = csm (i 2) 1 := csm_congr (k0_off18_eq i) _
@[sl_canon] theorem semP2 (hh) : (cc0_scratch7.slice (Rect.unit (s := S8x4) (k0_off21 i) S1x1.size hh)).squeeze S_ squeezes_S1x1_S_ = csm (i 2) 2 := csm_congr (k0_off21_eq i) _
@[sl_canon] theorem semP3 (hh) : (cc0_scratch7.slice (Rect.unit (s := S8x4) (k0_off24 i) S1x1.size hh)).squeeze S_ squeezes_S1x1_S_ = csm (i 2) 3 := csm_congr (k0_off24_eq i) _
@[sl_canon] theorem pieceP0 (hh hs) : bufM.slice (Rect.unit (s := S32x262144) (k0_off16 i) S8x32768.size hh) hs = piece (i 2) 0 := piece_congr (k0_off16_eq i) _ _
@[sl_canon] theorem pieceP1 (hh hs) : bufM.slice (Rect.unit (s := S32x262144) (k0_off19 i) S8x32768.size hh) hs = piece (i 2) 1 := piece_congr (k0_off19_eq i) _ _
@[sl_canon] theorem pieceP2 (hh hs) : bufM.slice (Rect.unit (s := S32x262144) (k0_off22 i) S8x32768.size hh) hs = piece (i 2) 2 := piece_congr (k0_off22_eq i) _ _
@[sl_canon] theorem pieceP3 (hh hs) : bufM.slice (Rect.unit (s := S32x262144) (k0_off25 i) S8x32768.size hh) hs = piece (i 2) 3 := piece_congr (k0_off25_eq i) _ _

/-- The sample after this point's (the first again after the last, which no transfer asks for). -/
def nxt : Fin 4 := ⟨((i 0).val + 1) % 4, Nat.mod_lt _ (by decide)⟩
/-- A box of the next sample that lies in the array starts at it. -/
theorem nxt_off {off : Fin 3 → ℕ} {j : Fin 4} (e : off = ![(i 0).val + 1, 8 * j.val, 32768 * (i 2).val])
    (hh : ∀ a, off a + S1x8x32768.size a ≤ S4x32x262144.size a) : off = srcOff (nxt i) (i 2) j := by
  subst e
  have h0 : (i 0).val + 1 + 1 ≤ 4 := hh 0
  show _ = ![((i 0).val + 1) % 4, 8 * j.val, 32768 * (i 2).val]
  rw [Nat.mod_eq_of_lt (by omega)]
@[sl_canon] theorem srcP0 (hh hs) : (hbM.slice (Rect.unit (s := S4x32x262144) (k0_off17 i) S1x8x32768.size hh) hs).squeeze S8x32768 squeezes_S1x8x32768_S8x32768 = srcp (nxt i) (i 2) 0 := srcp_congr (nxt_off i (k0_off17_eq i) hh) _ _
@[sl_canon] theorem srcP1 (hh hs) : (hbM.slice (Rect.unit (s := S4x32x262144) (k0_off20 i) S1x8x32768.size hh) hs).squeeze S8x32768 squeezes_S1x8x32768_S8x32768 = srcp (nxt i) (i 2) 1 := srcp_congr (nxt_off i (k0_off20_eq i) hh) _ _
@[sl_canon] theorem srcP2 (hh hs) : (hbM.slice (Rect.unit (s := S4x32x262144) (k0_off23 i) S1x8x32768.size hh) hs).squeeze S8x32768 squeezes_S1x8x32768_S8x32768 = srcp (nxt i) (i 2) 2 := srcp_congr (nxt_off i (k0_off23_eq i) hh) _ _
@[sl_canon] theorem srcP3 (hh hs) : (hbM.slice (Rect.unit (s := S4x32x262144) (k0_off26 i) S1x8x32768.size hh) hs).squeeze S8x32768 squeezes_S1x8x32768_S8x32768 = srcp (nxt i) (i 2) 3 := srcp_congr (nxt_off i (k0_off26_eq i) hh) _ _

end Canon

/-! ## The pieces as element sets -/

/-- The elements of piece `(k, j)`, of slot `k`, of piece `(b, k, j)` of the array, as indices. -/
def pSet (k : Fin 8) (j : Fin 4) : Finset S32x262144.Idx := (Rect.unit (s := S32x262144) (pieceOff k j) S8x32768.size (pieceOff_inb k j)).set
def slSet (k : Fin 8) : Finset S32x262144.Idx := (Rect.unit (s := S32x262144) (slotOff k) S32x32768.size (slotOff_inb k)).set
def sSet (b : Fin 4) (k : Fin 8) (j : Fin 4) : Finset S4x32x262144.Idx := (Rect.unit (s := S4x32x262144) (srcOff b k j) S1x8x32768.size (srcOff_inb b k j)).set

theorem piece_set (k : Fin 8) (j : Fin 4) : (piece k j).view.set = pSet k j := View.set_slice_whole ..
theorem slot_set (k : Fin 8) : (slotM k).view.set = slSet k := View.set_slice_whole ..
theorem src_set (b : Fin 4) (k : Fin 8) (j : Fin 4) : (srcp b k j).view.set = sSet b k j :=
  (View.set_reshape ..).trans (View.set_slice_whole ..)

theorem mem_piece (k : Fin 8) (j : Fin 4) (x : S32x262144.Idx) :
    x ∈ pSet k j ↔ (x 0).val / 8 = j.val ∧ (x 1).val / 32768 = k.val := by
  unfold pSet
  rw [Rect.mem_set_unit]
  constructor
  · intro h
    have h0 : 8 * j.val ≤ (x 0).val ∧ (x 0).val < 8 * j.val + 8 := h 0
    have h1 : 32768 * k.val ≤ (x 1).val ∧ (x 1).val < 32768 * k.val + 32768 := h 1
    omega
  · rintro ⟨h0, h1⟩ a; fin_cases a
    · show 8 * j.val ≤ (x 0).val ∧ (x 0).val < 8 * j.val + 8; omega
    · show 32768 * k.val ≤ (x 1).val ∧ (x 1).val < 32768 * k.val + 32768; omega

theorem mem_slot (k : Fin 8) (x : S32x262144.Idx) :
    x ∈ slSet k ↔ (x 1).val / 32768 = k.val := by
  unfold slSet
  rw [Rect.mem_set_unit]
  have hx : (x 0).val < 32 := (x 0).isLt
  constructor
  · intro h
    have h1 : 32768 * k.val ≤ (x 1).val ∧ (x 1).val < 32768 * k.val + 32768 := h 1
    omega
  · rintro h1 a; fin_cases a
    · show 0 ≤ (x 0).val ∧ (x 0).val < 0 + 32; omega
    · show 32768 * k.val ≤ (x 1).val ∧ (x 1).val < 32768 * k.val + 32768; omega

theorem mem_src (b : Fin 4) (k : Fin 8) (j : Fin 4) (x : S4x32x262144.Idx) :
    x ∈ sSet b k j ↔ (x 0).val = b.val ∧ (x 1).val / 8 = j.val ∧ (x 2).val / 32768 = k.val := by
  unfold sSet
  rw [Rect.mem_set_unit]
  constructor
  · intro h
    have h0 : b.val ≤ (x 0).val ∧ (x 0).val < b.val + 1 := h 0
    have h1 : 8 * j.val ≤ (x 1).val ∧ (x 1).val < 8 * j.val + 8 := h 1
    have h2 : 32768 * k.val ≤ (x 2).val ∧ (x 2).val < 32768 * k.val + 32768 := h 2
    omega
  · rintro ⟨h0, h1, h2⟩ a; fin_cases a
    · show b.val ≤ (x 0).val ∧ (x 0).val < b.val + 1; omega
    · show 8 * j.val ≤ (x 1).val ∧ (x 1).val < 8 * j.val + 8; omega
    · show 32768 * k.val ≤ (x 2).val ∧ (x 2).val < 32768 * k.val + 32768; omega

theorem pieces_disjoint (p q : Fin 8 × Fin 4) (h : p ≠ q) : Disjoint (pSet p.1 p.2) (pSet q.1 q.2) :=
  Finset.disjoint_left.mpr fun x h1 h2 => h (by
    have a := (mem_piece _ _ x).mp h1; have b := (mem_piece _ _ x).mp h2
    exact Prod.ext (Fin.ext (by omega)) (Fin.ext (by omega)))
theorem pieces_cover : (Finset.univ.biUnion fun p : Fin 8 × Fin 4 => pSet p.1 p.2) = Finset.univ :=
  Finset.eq_univ_of_forall fun x => Finset.mem_biUnion.mpr (by
    have h0 : (x 0).val < 32 := (x 0).isLt
    have h1 : (x 1).val < 262144 := (x 1).isLt
    exact ⟨(⟨(x 1).val / 32768, by omega⟩, ⟨(x 0).val / 8, by omega⟩), Finset.mem_univ _, (mem_piece _ _ x).mpr ⟨rfl, rfl⟩⟩)
theorem slot_disjoint (k : Fin 8) (p q : Fin 4) (h : p ≠ q) : Disjoint (pSet k p) (pSet k q) :=
  pieces_disjoint (k, p) (k, q) fun e => h (congrArg Prod.snd e)
theorem slot_cover (k : Fin 8) : (Finset.univ.biUnion fun p : Fin 4 => pSet k p) = slSet k := by
  ext x; rw [Finset.mem_biUnion]
  refine Iff.trans ?_ (mem_slot k x).symm
  constructor
  · rintro ⟨j, -, h⟩; exact ((mem_piece k j x).mp h).2
  · intro h
    have h0 : (x 0).val < 32 := (x 0).isLt
    exact ⟨⟨(x 0).val / 8, by omega⟩, Finset.mem_univ _, (mem_piece _ _ x).mpr ⟨rfl, h⟩⟩
theorem srcs_disjoint (p q : Fin 8 × Fin 4 × Fin 4) (h : p ≠ q) : Disjoint (sSet p.2.1 p.1 p.2.2) (sSet q.2.1 q.1 q.2.2) :=
  Finset.disjoint_left.mpr fun x h1 h2 => h (by
    have a := (mem_src _ _ _ x).mp h1; have b := (mem_src _ _ _ x).mp h2
    exact Prod.ext (Fin.ext (by omega)) (Prod.ext (Fin.ext (by omega)) (Fin.ext (by omega))))
theorem srcs_cover : (Finset.univ.biUnion fun p : Fin 8 × Fin 4 × Fin 4 => sSet p.2.1 p.1 p.2.2) = Finset.univ :=
  Finset.eq_univ_of_forall fun x => Finset.mem_biUnion.mpr (by
    have h0 : (x 1).val < 32 := (x 1).isLt
    have h1 : (x 2).val < 262144 := (x 2).isLt
    exact ⟨((⟨(x 2).val / 32768, by omega⟩ : Fin 8), (⟨(x 0).val, (x 0).isLt⟩ : Fin 4), (⟨(x 1).val / 8, by omega⟩ : Fin 4)), Finset.mem_univ _, (mem_src _ _ _ x).mpr ⟨rfl, rfl, rfl⟩⟩)

/-! ## What lands: a sample, read through the scratch buffer's indices -/

/-- Sample `b` of an array of samples, as contents of the scratch buffer. -/
def X (V : S4x32x262144.Idx → Elt F .f32) (b : Fin 4) : S32x262144.Idx → Elt F .f32 :=
  fun x => V (ValueIdx.ix3 b (x 0) (x 1))

theorem X_read (V : S4x32x262144.Idx → Elt F .f32) (b : Fin 4) (k : Fin 8) (j : Fin 4) :
    (piece k j).view.read (Elt F) (X V b) = (srcp b k j).view.read (Elt F) V := by
  funext y
  obtain ⟨y0, y1, rfl⟩ : ∃ y0 y1, y = ValueIdx.ix2 y0 y1 := ⟨y 0, y 1, ValueIdx.eq_ix2 y⟩
  show X V b ((piece k j).view.emb (ValueIdx.ix2 y0 y1)) = V ((srcp b k j).view.emb (ValueIdx.ix2 y0 y1))
  unfold X
  congr 1
  have e : (srcp b k j).view.emb (ValueIdx.ix2 y0 y1) = (Rect.unit (s := S4x32x262144) (srcOff b k j) S1x8x32768.size (srcOff_inb b k j)).emb (ValueIdx.ix3 0 y0 y1) := by
    unfold srcp
    show (Rect.unit (s := S4x32x262144) (srcOff b k j) S1x8x32768.size (srcOff_inb b k j)).emb (Shape.reshapeEquiv _ (ValueIdx.ix2 y0 y1)) = _
    exact congrArg _ (ValueIdx.reshapeEquiv_ix2_1ab _ _ _)
  rw [e]
  funext a; fin_cases a <;> apply Fin.ext
  · show b.val = b.val + 0 * 1; omega
  · rfl
  · rfl

end Cert.KernelIdeal.Hand

end
-- ==== Proof.IParts.lean ====
/-
  The pieces of the kernel's memory a body holds, and what its parts do to them: the waits of a slot's four
  transfers, the starts of the next sample's four, the first point's thirty-two starts.
-/
module

public import proofs.«01_k».proof.Proof.IGeo
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Pieces
variable (c : Dev nD) (V : S4x32x262144.Idx → Elt F .f32)

/-- The counter of piece `(k, j)`'s semaphore at zero. -/
abbrev cellP (k : Fin 8) (j : Fin 4) : sProp 𝕄 := semVal ((c : Thread nD τ), SemLoc.dma (csm k j).sem) 0
/-- Piece `(k, j)` of the scratch buffer, at the contents `f` of the whole buffer. -/
abbrev pcP (k : Fin 8) (j : Fin 4) (f : S32x262144.Idx → Elt F .f32) : sProp 𝕄 :=
  (piece k j).view.loc (c : Thread nD τ) ↦[(piece k j).view.set]{fullShare} f
abbrev slP (k : Fin 8) (f : S32x262144.Idx → Elt F .f32) : sProp 𝕄 :=
  (slotM k).view.loc (c : Thread nD τ) ↦[(slotM k).view.set]{fullShare} f
/-- Piece `(k, j)` of sample `b` in HBM. -/
abbrev homeP (b : Fin 4) (k : Fin 8) (j : Fin 4) : sProp 𝕄 :=
  (srcp b k j).view.loc (c : Thread nD τ) ↦[(srcp b k j).view.set]{fullShare} V
/-- Piece `(k, j)` in flight with sample `b`. -/
abbrev flightP (b : Fin 4) (k : Fin 8) (j : Fin 4) : sProp 𝕄 :=
  Transfers.Flight (countersEmb (U := Pipeline.UD sig nD τ)) (c : Thread nD τ) (SemLoc.dma (csm k j).sem) () 32768 iprop(pcP c k j (X V b) ∗ homeP c V b k j)

/-- Four pieces of a slot at one contents are the slot at them. -/
theorem slot_eq (k : Fin 8) (f : S32x262144.Idx → Elt F .f32) :
    slP c k f = iprop(pcP c k 0 f ∗ pcP c k 1 f ∗ pcP c k 2 f ∗ pcP c k 3 f) := by
  have e := Ring.pointsTo_sub_blocks (Ix := Unit) (Name := ℕ) (U := Pipeline.UD sig nD τ) (Lvl := ℕ) (Val := Elt F) (ℓ := (c : Thread nD τ).loc cc0_scratch0)
    (fun j : Fin 4 => pSet k j) (fun p q h => slot_disjoint k p q h) (slSet k) (slot_cover k) (q := fullShare) f
  have e' := e.trans (bigSep_univ_eq_bigSepL [(0 : Fin 4), 1, 2, 3] (by decide) (by decide) _)
  have h1 : slP c k f = ((c : Thread nD τ).loc cc0_scratch0 ↦[slSet k]{fullShare} f : sProp 𝕄) := by
    show ((c : Thread nD τ).loc cc0_scratch0 ↦[(slotM k).view.set]{fullShare} f : sProp 𝕄) = _
    rw [slot_set]
  have h2 : ∀ j, pcP c k j f = ((c : Thread nD τ).loc cc0_scratch0 ↦[pSet k j]{fullShare} f : sProp 𝕄) := fun j => by
    show ((c : Thread nD τ).loc cc0_scratch0 ↦[(piece k j).view.set]{fullShare} f : sProp 𝕄) = _
    rw [piece_set]
  rw [h1, h2, h2, h2, h2, e']
  rfl

theorem slot_join (k : Fin 8) (f : S32x262144.Idx → Elt F .f32) :
    iprop(pcP c k 0 f ∗ pcP c k 1 f ∗ pcP c k 2 f ∗ pcP c k 3 f) ⊢ slP c k f := (slot_eq c k f) ▸ .rfl
theorem slot_split (k : Fin 8) (f : S32x262144.Idx → Elt F .f32) :
    slP c k f ⊢ iprop(pcP c k 0 f ∗ pcP c k 1 f ∗ pcP c k 2 f ∗ pcP c k 3 f) := (slot_eq c k f) ▸ .rfl

/-- A memref held by its own elements at two contents that read alike is one assertion. -/
theorem pts_of_read {s : Shape} {e : EltTy} {sp} (m : Memref sig .tc sp s e) (f g : Buf (Elt F) (m.view.loc (c : Thread nD τ)))
    (h : m.view.read (Elt F) f = m.view.read (Elt F) g) :
    (m.view.loc (c : Thread nD τ) ↦[m.view.set]{fullShare} f : sProp 𝕄) = m.view.loc (c : Thread nD τ) ↦[m.view.set]{fullShare} g := by
  rw [pointsTo_rep (c : Thread nD τ) m f fullShare, pointsTo_rep (c : Thread nD τ) m g fullShare, h]

/-- What a transfer of sample `b`'s piece leaves over any contents is the sample's piece. -/
theorem landed_eq (b : Fin 4) (k : Fin 8) (j : Fin 4) (f : (piece k j).view.ty.Contents (Elt F)) :
    ((piece k j).view.loc (c : Thread nD τ) ↦[(piece k j).view.set]{fullShare}
        (piece k j).view.write (Elt F) f ((srcp b k j).view.read (Elt F) V) Finset.univ : sProp 𝕄) = pcP c k j (X V b) := by
  have e : (piece k j).view.read (Elt F) ((piece k j).view.write (Elt F) f ((srcp b k j).view.read (Elt F) V) Finset.univ)
      = (piece k j).view.read (Elt F) (X V b) := (View.read_write_univ _ _).trans (X_read V b k j).symm
  exact pts_of_read c (piece k j) _ _ e

/-- A scratch buffer held whole at the vector `x`. -/
abbrev hold {s : Shape} {e : EltTy} {sp} (m : Memref sig .tc sp s e) (x : Vec F s e) : sProp 𝕄 :=
  m.view.loc (c : Thread nD τ) ↦[m.view.set]{fullShare} m.view.rep x

end Pieces

abbrev sc1 : Memref sig .tc .vmem S32x32 .f32 := Memref.whole cc0_scratch1
abbrev sc2 : Memref sig .tc .vmem S32x32 .f32 := Memref.whole cc0_scratch2
abbrev sc3 : Memref sig .tc .vmem S1x32 .f32 := Memref.whole cc0_scratch3
abbrev sc4 : Memref sig .tc .vmem S1x32 .f32 := Memref.whole cc0_scratch4
abbrev sc5 : Memref sig .tc .vmem S1x32 .f32 := Memref.whole cc0_scratch5
abbrev sc6 : Memref sig .tc .smem S4 .f32 := Memref.whole cc0_scratch6

/-- The chunk `k` of sample `b`'s embeddings as the body loads it. -/
def slotVal (V : S4x32x262144.Idx → Elt F .f32) (b : Fin 4) (k : Fin 8) : Vec F S32x32768 .f32 := (slotM k).view.read (Elt F) (X V b)

/-- The program's test for the first chunk. -/
abbrev condN0 (i : grid0.Coords) : Prop := Scalar.cmpi .ne (Scalar.extui (Scalar.cmpi .eq (BitVec.ofNat 32 (i 2).val) 0#32) : BitVec 32) 0#32 = 1#1
theorem condN0_iff : ∀ i : grid0.Coords, condN0 i ↔ (i 2).val = 0 := by decide +kernel

/-- A buffer whose last store filled it is held at what was stored. -/
theorem hold_writes (c : Dev nD) {s : Shape} {e : EltTy} {sp} (m : Memref sig .tc sp s e) (f : Buf (Elt F) (m.view.loc (c : Thread nD τ)))
    {off : Fin s.rank → ℕ} (inb : ∀ a, off a + s.size a ≤ s.size a) (w : s.Idx → Elt F e) (L : List (View.Piece (Elt F) s e)) :
    (m.view.loc (c : Thread nD τ) ↦[m.view.set]{fullShare} m.view.writes (Elt F) f ((⟨Rect.unit off s.size inb, w⟩ : View.Piece (Elt F) s e) :: L) : sProp 𝕄) ⊢ hold c m w := by
  refine Eq.subst (motive := fun x => _ ⊢ x) (pts_of_read c m _ _ ?_) .rfl
  rw [View.read_writes_full, View.read_rep]

theorem slot_load (V : S4x32x262144.Idx → Elt F .f32) (b : Fin 4) (k : Fin 8) {off : Fin 2 → ℕ} (h : off = ![0, 32768 * k.val]) (hh) :
    bufM.view.readAt (Elt F) (Rect.unit (s := S32x262144) off S32x32768.size hh).toLoadRect (X V b) = slotVal V b k := by
  subst h; rfl

section Part8
variable (c : Dev nD) (V : S4x32x262144.Idx → Elt F .f32) (i : grid0.Coords)
  (arg4 : Memref sig .tc .vmem S1x1x32768 .i32) (harg4 : arg4.IsWhole) (arg5 : Memref sig .tc .vmem S1x4 .f32) (harg5 : arg5.IsWhole)

theorem part8_wp (hC : k0_cond2 i = 1#1) (S : Vec F S32x32 .f32) (CT : Vec F S1x32 .f32) (W : Waits sig Unit) :
    iprop((flightP c V (i 0) (i 2) 0 ∗ flightP c V (i 0) (i 2) 1 ∗ flightP c V (i 0) (i 2) 2 ∗ flightP c V (i 0) (i 2) 3)
      ∗ hold c sc1 S ∗ hold c sc4 CT ∗ owes (c : Thread nD τ) 0 W)
    ⊢ wp frame (wpE (defs₀ (F := F)) 𝒱₀ c none) Set.univ
        (k0_part8 i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7 (BitVec.ofNat 32 (i 2).val) hC)
        (fun _ => iprop(slP c (i 2) (X V (i 0)) ∗ (cellP c (i 2) 0 ∗ cellP c (i 2) 1 ∗ cellP c (i 2) 2 ∗ cellP c (i 2) 3)
          ∗ (homeP c V (i 0) (i 2) 0 ∗ homeP c V (i 0) (i 2) 1 ∗ homeP c V (i 0) (i 2) 2 ∗ homeP c V (i 0) (i 2) 3)
          ∗ hold c sc1 (if (i 2).val = 0 then k0_pay11 else S) ∗ hold c sc4 (if (i 2).val = 0 then k0_pay12 else CT)
          ∗ ∃ W', owes (c : Thread nD τ) 0 W')) := by
  by_cases h : (i 2).val = 0
  · have h3 := (condN0_iff i).mpr h
    unfold condN0 at h3
    rw [if_pos h, if_pos h]
    iintro ⟨⟨F0, F1, F2, F3⟩, HS, HC, HO⟩
    sl_unfold [k0_part8]
    sl_exec
    sl_step
    isplitl [F0_dst F1_dst F2_dst F3_dst]
    · iapply (slot_join c (i 2) (X V (i 0)))
      isplitl [F0_dst]; · iexact F0_dst
      isplitl [F1_dst]; · iexact F1_dst
      isplitl [F2_dst]; · iexact F2_dst
      iexact F3_dst
    isplitl [F0 F1 F2 F3]; · isplitl [F0]; · iexact F0
                             isplitl [F1]; · iexact F1
                             isplitl [F2]; · iexact F2
                             iexact F3
    isplitl [F0_src F1_src F2_src F3_src]; · isplitl [F0_src]; · iexact F0_src
                                             isplitl [F1_src]; · iexact F1_src
                                             isplitl [F2_src]; · iexact F2_src
                                             iexact F3_src
    isplitl [HS]; · iapply (hold_writes c sc1 _ _ _ _) $$ HS
    isplitl [HC]; · iapply (hold_writes c sc4 _ _ _ _) $$ HC
    iexists _; iexact HO
  · have h3 := (condN0_iff i).not.mpr h
    unfold condN0 at h3
    rw [if_neg h, if_neg h]
    iintro ⟨⟨F0, F1, F2, F3⟩, HS, HC, HO⟩
    sl_unfold [k0_part8]
    sl_exec
    sl_step
    isplitl [F0_dst F1_dst F2_dst F3_dst]
    · iapply (slot_join c (i 2) (X V (i 0)))
      isplitl [F0_dst]; · iexact F0_dst
      isplitl [F1_dst]; · iexact F1_dst
      isplitl [F2_dst]; · iexact F2_dst
      iexact F3_dst
    isplitl [F0 F1 F2 F3]; · isplitl [F0]; · iexact F0
                             isplitl [F1]; · iexact F1
                             isplitl [F2]; · iexact F2
                             iexact F3
    isplitl [F0_src F1_src F2_src F3_src]; · isplitl [F0_src]; · iexact F0_src
                                             isplitl [F1_src]; · iexact F1_src
                                             isplitl [F2_src]; · iexact F2_src
                                             iexact F3_src
    isplitl [HS]; · iexact HS
    isplitl [HC]; · iexact HC
    iexists _; iexact HO

theorem part11_wp (hC : k0_cond5 i = 1#1) (b : Fin 4) (v13 : FVec F S32x32768 .f32) (C : Vec F S32x32 .f32) (N2 H : Vec F S1x32 .f32) :
    iprop(slP c (i 2) (X V b) ∗ hold c sc2 C ∗ hold c sc3 N2 ∗ hold c sc5 H)
    ⊢ wp frame (wpE (defs₀ (F := F)) 𝒱₀ c none) Set.univ
        (k0_part11 i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7 (BitVec.ofNat 32 (i 0).val) (BitVec.ofNat 32 (i 2).val) v13 hC)
        (fun _ => iprop(slP c (i 2) (X V b) ∗ hold c sc2 C ∗ hold c sc3 N2
          ∗ hold c sc5 (k0_pay24 v13 (slotVal V b (i 2)) C N2 (if (i 2).val = 0 then k0_pay23 else H)))) := by
  by_cases h : (i 2).val = 0
  · have h3 := (condN0_iff i).mpr h
    unfold condN0 at h3
    rw [if_pos h]
    iintro ⟨HB, HC, HN, HH⟩
    sl_unfold [k0_part11]
    sl_exec
    sl_step
    unfold part11_wp.sl.v47 part11_wp.sl.HH_1
    rw [slot_load V b (i 2) (k0_off14_eq i), View.readAt_rep_full, View.readAt_rep_full, View.readCov_full]
    isplitl [HB]; · iexact HB
    isplitl [HC]; · iexact HC
    isplitl [HN]; · iexact HN
    iapply (hold_writes c sc5 _ _ _ _) $$ HH
  · have h3 := (condN0_iff i).not.mpr h
    unfold condN0 at h3
    rw [if_neg h]
    iintro ⟨HB, HC, HN, HH⟩
    sl_unfold [k0_part11]
    sl_exec
    sl_step
    rw [slot_load V b (i 2) (k0_off14_eq i), View.readAt_rep_full, View.readAt_rep_full, View.readAt_rep_full]
    isplitl [HB]; · iexact HB
    isplitl [HC]; · iexact HC
    isplitl [HN]; · iexact HN
    iapply (hold_writes c sc5 _ _ _ _) $$ HH

/-- The second phase's part, its chunk held as the four pieces. -/
theorem part11_pc (hC : k0_cond5 i = 1#1) (b : Fin 4) (v13 : FVec F S32x32768 .f32) (C : Vec F S32x32 .f32) (N2 H : Vec F S1x32 .f32) :
    iprop((pcP c (i 2) 0 (X V b) ∗ pcP c (i 2) 1 (X V b) ∗ pcP c (i 2) 2 (X V b) ∗ pcP c (i 2) 3 (X V b)) ∗ hold c sc2 C ∗ hold c sc3 N2 ∗ hold c sc5 H)
    ⊢ wp frame (wpE (defs₀ (F := F)) 𝒱₀ c none) Set.univ
        (k0_part11 i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7 (BitVec.ofNat 32 (i 0).val) (BitVec.ofNat 32 (i 2).val) v13 hC)
        (fun _ => iprop((pcP c (i 2) 0 (X V b) ∗ pcP c (i 2) 1 (X V b) ∗ pcP c (i 2) 2 (X V b) ∗ pcP c (i 2) 3 (X V b)) ∗ hold c sc2 C ∗ hold c sc3 N2
          ∗ hold c sc5 (k0_pay24 v13 (slotVal V b (i 2)) C N2 (if (i 2).val = 0 then k0_pay23 else H)))) :=
  (sep_mono (slot_join c (i 2) (X V b)) .rfl).trans ((part11_wp c V i arg4 harg4 arg5 harg5 hC b v13 C N2 H).trans
    (wp_mono _ _ _ fun _ => sep_mono (slot_split c (i 2) (X V b)) .rfl))

end Part8

end Cert.KernelIdeal.Hand

end
-- ==== Proof.IBody0.lean ====
/-
  The body at a grid point of the first phase: the slot's transfers waited for, the chunk's sums and counts added,
  and at the last chunk the centroids and their squared norms stored.
-/
module

public import proofs.«01_k».proof.Proof.IParts
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (V : S4x32x262144.Idx → Elt F .f32) (i : grid0.Coords)
  (arg4 : Memref sig .tc .vmem S1x1x32768 .i32) (harg4 : arg4.IsWhole) (arg5 : Memref sig .tc .vmem S1x4 .f32) (harg5 : arg5.IsWhole)

/-- The program's test for the grid's first point. -/
abbrev condFirst (i : grid0.Coords) : Prop :=
  Scalar.cmpi .ne (Scalar.extui (Scalar.andi (Scalar.andi (Scalar.cmpi .eq (BitVec.ofNat 32 (i 0).val) 0#32) (Scalar.cmpi .eq (BitVec.ofNat 32 (i 1).val) 0#32))
    (Scalar.cmpi .eq (BitVec.ofNat 32 (i 2).val) 0#32)) : BitVec 32) 0#32 = 1#1
/-- The program's test for the last chunk of the first phase. -/
abbrev condN7 (i : grid0.Coords) : Prop := Scalar.cmpi .ne (Scalar.extui (Scalar.cmpi .eq (BitVec.ofNat 32 (i 2).val) 7#32) : BitVec 32) 0#32 = 1#1
theorem condFirst_iff : ∀ i : grid0.Coords, condFirst i ↔ ((i 0).val = 0 ∧ (i 1).val = 0 ∧ (i 2).val = 0) := by decide +kernel
theorem condN7_iff : ∀ i : grid0.Coords, condN7 i ↔ (i 2).val = 7 := by decide +kernel
theorem cond2_iff : ∀ i : grid0.Coords, k0_cond2 i = 1#1 ↔ (i 1).val = 0 := by decide +kernel
theorem cond5_iff : ∀ i : grid0.Coords, k0_cond5 i = 1#1 ↔ (i 1).val = 1 := by decide +kernel
theorem cond7_iff : ∀ i : grid0.Coords, k0_cond7 i = 1#1 ↔ (i 0).val + 1 < 4 := by decide +kernel
theorem cond8_iff : ∀ i : grid0.Coords, k0_cond8 i = 1#1 ↔ (i 2).val = 7 := by decide +kernel
theorem cond9_iff : ∀ i : grid0.Coords, k0_cond9 i = 1#1 ↔ (i 0).val = 3 := by decide +kernel

/-- The class sums after a chunk. -/
def sumNext (Mk : Vec F S1x1x32768 .i32) (S : Vec F S32x32 .f32) : Vec F S32x32 .f32 :=
  k0_pay2 Mk (slotVal V (i 0) (i 2)) (if (i 2).val = 0 then k0_pay11 else S)
/-- The class counts after a chunk. -/
def cntNext (Mk : Vec F S1x1x32768 .i32) (CT : Vec F S1x32 .f32) : Vec F S1x32 .f32 := k0_pay3 Mk (if (i 2).val = 0 then k0_pay12 else CT)

theorem body0_mid (h1 : ¬ condFirst i) (h2 : k0_cond2 i = 1#1) (h5 : ¬ k0_cond5 i = 1#1) (h : ¬ (i 2).val = 7)
    (Mk : Vec F S1x1x32768 .i32) (S C : Vec F S32x32 .f32) (CT N2 : Vec F S1x32 .f32) (W : Waits sig Unit) :
    iprop((flightP c V (i 0) (i 2) 0 ∗ flightP c V (i 0) (i 2) 1 ∗ flightP c V (i 0) (i 2) 2 ∗ flightP c V (i 0) (i 2) 3)
      ∗ hold c sc1 S ∗ hold c sc2 C ∗ hold c sc3 N2 ∗ hold c sc4 CT ∗ hold c arg4 Mk ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7)
        (fun _ => iprop(slP c (i 2) (X V (i 0)) ∗ (cellP c (i 2) 0 ∗ cellP c (i 2) 1 ∗ cellP c (i 2) 2 ∗ cellP c (i 2) 3)
          ∗ (homeP c V (i 0) (i 2) 0 ∗ homeP c V (i 0) (i 2) 1 ∗ homeP c V (i 0) (i 2) 2 ∗ homeP c V (i 0) (i 2) 3)
          ∗ hold c sc1 (sumNext V i Mk S) ∗ hold c sc2 (if (i 2).val = 7 then k0_pay5 (cntNext i Mk CT) (sumNext V i Mk S) else C)
          ∗ hold c sc3 (if (i 2).val = 7 then k0_pay6 (cntNext i Mk CT) (sumNext V i Mk S) else N2)
          ∗ hold c sc4 (cntNext i Mk CT) ∗ hold c arg4 Mk
          ∗ ∃ W', owes (c : Thread nD τ) 0 W')) := by
  have hcut := fun S CT W => part8_wp c V i arg4 harg4 arg5 harg5 h2 S CT W
  iintro ⟨⟨F0, F1, F2, F3⟩, HS, H2, H3, HC, HM, HO⟩
  sl_unfold [cc0__body]
  have h7 := (condN7_iff i).not.mpr h
  rw [if_neg h, if_neg h]
  sl_exec
  unfold body0_mid.sl.v55 body0_mid.sl.v61
  rw [slot_load V (i 0) (i 2) (k0_off13_eq i), View.readAt_rep_full, View.readAt_rep_full, View.readAt_rep_full]
  unfold sumNext cntNext
  sl_step
  isplitl [Hk0_part8_0]; · iexact Hk0_part8_0
  isplitl [Hk0_part8_1 Hk0_part8_2 Hk0_part8_3 Hk0_part8_4]
  · isplitl [Hk0_part8_1]; · iexact Hk0_part8_1
    isplitl [Hk0_part8_2]; · iexact Hk0_part8_2
    isplitl [Hk0_part8_3]; · iexact Hk0_part8_3
    iexact Hk0_part8_4
  isplitl [Hk0_part8_5 Hk0_part8_6 Hk0_part8_7 Hk0_part8_8]
  · isplitl [Hk0_part8_5]; · iexact Hk0_part8_5
    isplitl [Hk0_part8_6]; · iexact Hk0_part8_6
    isplitl [Hk0_part8_7]; · iexact Hk0_part8_7
    iexact Hk0_part8_8
  isplitl [Hk0_part8_9]; · iapply (hold_writes c sc1 _ _ _ _) $$ Hk0_part8_9
  isplitl [H2]; · iexact H2
  isplitl [H3]; · iexact H3
  isplitl [Hk0_part8_10]; · iapply (hold_writes c sc4 _ _ _ _) $$ Hk0_part8_10
  isplitl [HM]; · iexact HM
  iexists _; iexact Hk0_part8_11

theorem body0_last (h1 : ¬ condFirst i) (h2 : k0_cond2 i = 1#1) (h5 : ¬ k0_cond5 i = 1#1) (h : (i 2).val = 7)
    (Mk : Vec F S1x1x32768 .i32) (S C : Vec F S32x32 .f32) (CT N2 : Vec F S1x32 .f32) (W : Waits sig Unit) :
    iprop((flightP c V (i 0) (i 2) 0 ∗ flightP c V (i 0) (i 2) 1 ∗ flightP c V (i 0) (i 2) 2 ∗ flightP c V (i 0) (i 2) 3)
      ∗ hold c sc1 S ∗ hold c sc2 C ∗ hold c sc3 N2 ∗ hold c sc4 CT ∗ hold c arg4 Mk ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7)
        (fun _ => iprop(slP c (i 2) (X V (i 0)) ∗ (cellP c (i 2) 0 ∗ cellP c (i 2) 1 ∗ cellP c (i 2) 2 ∗ cellP c (i 2) 3)
          ∗ (homeP c V (i 0) (i 2) 0 ∗ homeP c V (i 0) (i 2) 1 ∗ homeP c V (i 0) (i 2) 2 ∗ homeP c V (i 0) (i 2) 3)
          ∗ hold c sc1 (sumNext V i Mk S) ∗ hold c sc2 (if (i 2).val = 7 then k0_pay5 (cntNext i Mk CT) (sumNext V i Mk S) else C)
          ∗ hold c sc3 (if (i 2).val = 7 then k0_pay6 (cntNext i Mk CT) (sumNext V i Mk S) else N2)
          ∗ hold c sc4 (cntNext i Mk CT) ∗ hold c arg4 Mk
          ∗ ∃ W', owes (c : Thread nD τ) 0 W')) := by
  have hcut := fun S CT W => part8_wp c V i arg4 harg4 arg5 harg5 h2 S CT W
  iintro ⟨⟨F0, F1, F2, F3⟩, HS, H2, H3, HC, HM, HO⟩
  sl_unfold [cc0__body]
  have h7 := (condN7_iff i).mpr h
  rw [if_pos h, if_pos h]
  sl_exec
  unfold body0_last.sl.v70 body0_last.sl.v73 body0_last.sl.Hk0_part8_9_1 body0_last.sl.Hk0_part8_10_1 body0_last.sl.v55 body0_last.sl.v61
  rw [slot_load V (i 0) (i 2) (k0_off13_eq i)]
  repeat rw [View.readAt_rep_full]
  repeat rw [View.readCov_full]
  unfold sumNext cntNext
  sl_step
  isplitl [Hk0_part8_0]; · iexact Hk0_part8_0
  isplitl [Hk0_part8_1 Hk0_part8_2 Hk0_part8_3 Hk0_part8_4]
  · isplitl [Hk0_part8_1]; · iexact Hk0_part8_1
    isplitl [Hk0_part8_2]; · iexact Hk0_part8_2
    isplitl [Hk0_part8_3]; · iexact Hk0_part8_3
    iexact Hk0_part8_4
  isplitl [Hk0_part8_5 Hk0_part8_6 Hk0_part8_7 Hk0_part8_8]
  · isplitl [Hk0_part8_5]; · iexact Hk0_part8_5
    isplitl [Hk0_part8_6]; · iexact Hk0_part8_6
    isplitl [Hk0_part8_7]; · iexact Hk0_part8_7
    iexact Hk0_part8_8
  isplitl [Hk0_part8_9]; · iapply (hold_writes c sc1 _ _ _ _) $$ Hk0_part8_9
  isplitl [H2]; · iapply (hold_writes c sc2 _ _ _ _) $$ H2
  isplitl [H3]; · iapply (hold_writes c sc3 _ _ _ _) $$ H3
  isplitl [Hk0_part8_10]; · iapply (hold_writes c sc4 _ _ _ _) $$ Hk0_part8_10
  isplitl [HM]; · iexact HM
  iexists _; iexact Hk0_part8_11

end Cert.KernelIdeal.Hand

end
-- ==== Proof.IBody1.lean ====
/-
  The body at a grid point of the second phase: the chunk's hinged distances added, the next sample's transfers into
  the slot started where there is one, and at the last chunk the sample's three losses added to the accumulators;
  at the last point the four results stored.
-/
module

public import proofs.«01_k».proof.Proof.IBody0
public import Idealize.ShloMosaic.Lib.VecWindow

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (V : S4x32x262144.Idx → Elt F .f32) (i : grid0.Coords)
  (arg4 : Memref sig .tc .vmem S1x1x32768 .i32) (harg4 : arg4.IsWhole) (arg5 : Memref sig .tc .vmem S1x4 .f32) (harg5 : arg5.IsWhole)

/-- The hinged sums after a chunk. -/
def hsNext (Mk : Vec F S1x1x32768 .i32) (C : Vec F S32x32 .f32) (N2 H : Vec F S1x32 .f32) : Vec F S1x32 .f32 :=
  k0_pay24 (k0_pay1 Mk) (slotVal V (i 0) (i 2)) C N2 (if (i 2).val = 0 then k0_pay23 else H)

/-- A transfer of the sample's piece in flight, whatever the piece held. -/
theorem flight_of_raw (b : Fin 4) (k : Fin 8) (j : Fin 4) (f : Buf (Elt F) ((piece k j).view.loc (c : Thread nD τ))) :
    (Transfers.Flight (countersEmb (U := Pipeline.UD sig nD τ)) (c : Thread nD τ) (SemLoc.dma (csm k j).sem) default 32768
      iprop(((piece k j).view.loc (c : Thread nD τ) ↦[(piece k j).view.set]{fullShare} (piece k j).view.writes (Elt F) f [⟨Rect.whole S8x32768, ReadAs.same.apply ((srcp b k j).view.read (Elt F) V)⟩]) ∗ homeP c V b k j) : sProp 𝕄)
    ⊢ flightP c V b k j := by
  have e : ((piece k j).view.loc (c : Thread nD τ) ↦[(piece k j).view.set]{fullShare} (piece k j).view.writes (Elt F) f [⟨Rect.whole S8x32768, ReadAs.same.apply ((srcp b k j).view.read (Elt F) V)⟩] : sProp 𝕄)
      = pcP c k j (X V b) := pts_of_read c (piece k j) _ _ ((View.read_writes_full _ _ _ _ _).trans (X_read V b k j).symm)
  rw [e]

/-- The index `k` of the four accumulators. -/
def sm (k : Fin 4) : S4.Idx := fun a => ⟨k.val, by fin_cases a; exact k.isLt⟩

/-- The accumulators after a sample: the variance, distance and size losses added, each where the sample has an instance, and the count of such samples. -/
def accNext (C : Vec F S32x32 .f32) (N2 H CT : Vec F S1x32 .f32) (A : Vec F S4 .f32) : Vec F S4 .f32 := fun x =>
  ![k0_pay22 (k0_pay14 CT) (k0_pay15 CT H) (A (sm 0)),
    k0_pay7 (k0_pay19 (k0_pay13 CT) (iota .tc S32x32 32 [0] iota_S32x32_d0_w32) (iota .tc S32x32 32 [1] iota_S32x32_d1_w32) k0_pay16 (k0_pay17 C N2) k0_pay18)
      (k0_pay21 (k0_pay14 CT)) (A (sm 1)),
    k0_pay8 (k0_pay20 (k0_pay13 CT) (k0_pay14 CT) N2) (k0_pay21 (k0_pay14 CT)) (A (sm 2)),
    k0_pay9 (k0_pay21 (k0_pay14 CT)) (A (sm 3))] ⟨(x 0).val, (x 0).isLt⟩

/-- The four results of the accumulators. -/
def outOf (A : Vec F S4 .f32) : Vec F S1x4 .f32 := k0_pay10 (A (sm 3)) (A (sm 0)) (A (sm 1)) (A (sm 2))

theorem smem_read (A : Vec F S4 .f32) (k : Fin 4) {off : Fin 1 → ℕ} (h : off = ![k.val]) (hh x) :
    View.readAt (Elt F) sc6.view (Rect.unit (s := S4) off S1.size hh).toLoadRect (sc6.view.rep A) x = A (sm k) := by
  subst h
  rw [View.readAt_rep]
  exact congrArg A (funext fun a => Fin.ext (by
    fin_cases a
    have hx : (x 0).val < 1 := (x 0).isLt
    show k.val + 1 * (x 0).val = k.val
    omega))

/-- Four stores, one to each accumulator, leave the four values. -/
theorem smem_hold (f : Buf (Elt F) (sc6.view.loc (c : Thread nD τ))) (a0 a1 a2 a3 : F .f32) (h0 h1 h2 h3) :
    (sc6.view.loc (c : Thread nD τ) ↦[sc6.view.set]{fullShare} sc6.view.writes (Elt F) f
      [⟨Rect.unit (s := S4) ![3] S1.size h3, fun _ => a3⟩, ⟨Rect.unit (s := S4) ![2] S1.size h2, fun _ => a2⟩,
        ⟨Rect.unit (s := S4) ![1] S1.size h1, fun _ => a1⟩, ⟨Rect.unit (s := S4) ![0] S1.size h0, fun _ => a0⟩] : sProp 𝕄)
    ⊢ hold c sc6 (fun x => ![a0, a1, a2, a3] ⟨(x 0).val, (x 0).isLt⟩) := by
  refine Eq.subst (motive := fun x => _ ⊢ x) (pts_of_read c sc6 _ _ ?_) .rfl
  rw [View.read_rep]
  funext y
  obtain ⟨k, rfl⟩ : ∃ k, y = sm k := ⟨⟨(y 0).val, (y 0).isLt⟩, funext fun a => by fin_cases a; rfl⟩
  rw [View.read_writes_cons_unit _ _ _ _ _ _ rfl, View.read_writes_cons_unit _ _ _ _ _ _ rfl, View.read_writes_cons_unit _ _ _ _ _ _ rfl, View.read_writes_cons_unit _ _ _ _ _ _ rfl]
  fin_cases k
  all_goals rfl

theorem body1_pre (h1 : ¬ condFirst i) (h2 : ¬ k0_cond2 i = 1#1) (h5 : k0_cond5 i = 1#1) (h7 : k0_cond7 i = 1#1) (h8 : ¬ k0_cond8 i = 1#1)
    (Mk : Vec F S1x1x32768 .i32) (C : Vec F S32x32 .f32) (N2 H : Vec F S1x32 .f32) (W : Waits sig Unit) :
    iprop((pcP c (i 2) 0 (X V (i 0)) ∗ pcP c (i 2) 1 (X V (i 0)) ∗ pcP c (i 2) 2 (X V (i 0)) ∗ pcP c (i 2) 3 (X V (i 0)))
      ∗ (cellP c (i 2) 0 ∗ cellP c (i 2) 1 ∗ cellP c (i 2) 2 ∗ cellP c (i 2) 3)
      ∗ (homeP c V (nxt i) (i 2) 0 ∗ homeP c V (nxt i) (i 2) 1 ∗ homeP c V (nxt i) (i 2) 2 ∗ homeP c V (nxt i) (i 2) 3)
      ∗ hold c sc2 C ∗ hold c sc3 N2 ∗ hold c sc5 H ∗ hold c arg4 Mk ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7)
        (fun _ => iprop((flightP c V (nxt i) (i 2) 0 ∗ flightP c V (nxt i) (i 2) 1 ∗ flightP c V (nxt i) (i 2) 2 ∗ flightP c V (nxt i) (i 2) 3)
          ∗ hold c sc2 C ∗ hold c sc3 N2 ∗ hold c sc5 (hsNext V i Mk C N2 H) ∗ hold c arg4 Mk ∗ ∃ W', owes (c : Thread nD τ) 0 W')) := by
  have hcut := fun v13 C N2 H => part11_pc c V i arg4 harg4 arg5 harg5 h5 (i 0) v13 C N2 H
  iintro ⟨⟨P0, P1, P2, P3⟩, ⟨C0, C1, C2, C3⟩, ⟨G0, G1, G2, G3⟩, H2, H3, HH, HM, HO⟩
  sl_unfold [cc0__body]
  sl_exec
  rw [View.readAt_rep_full]
  unfold hsNext body1_pre.sl.dma0 body1_pre.sl.dma0_1 body1_pre.sl.dma0_2 body1_pre.sl.dma0_3
  sl_step
  isplitl [C0 C1 C2 C3]
  · isplitl [C0]; · iapply (flight_of_raw c V (nxt i) (i 2) 0 (X V (i 0))) $$ C0
    isplitl [C1]; · iapply (flight_of_raw c V (nxt i) (i 2) 1 (X V (i 0))) $$ C1
    isplitl [C2]; · iapply (flight_of_raw c V (nxt i) (i 2) 2 (X V (i 0))) $$ C2
    iapply (flight_of_raw c V (nxt i) (i 2) 3 (X V (i 0))) $$ C3
  isplitl [Hk0_part11_4]; · iexact Hk0_part11_4
  isplitl [Hk0_part11_5]; · iexact Hk0_part11_5
  isplitl [Hk0_part11_6]; · iexact Hk0_part11_6
  isplitl [HM]; · iexact HM
  iexists _; iexact HO

theorem body1_late (h1 : ¬ condFirst i) (h2 : ¬ k0_cond2 i = 1#1) (h5 : k0_cond5 i = 1#1) (h7 : ¬ k0_cond7 i = 1#1) (h8 : ¬ k0_cond8 i = 1#1)
    (Mk : Vec F S1x1x32768 .i32) (C : Vec F S32x32 .f32) (N2 H : Vec F S1x32 .f32) (W : Waits sig Unit) :
    iprop((pcP c (i 2) 0 (X V (i 0)) ∗ pcP c (i 2) 1 (X V (i 0)) ∗ pcP c (i 2) 2 (X V (i 0)) ∗ pcP c (i 2) 3 (X V (i 0))) ∗ hold c sc2 C ∗ hold c sc3 N2 ∗ hold c sc5 H ∗ hold c arg4 Mk ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7)
        (fun _ => iprop((pcP c (i 2) 0 (X V (i 0)) ∗ pcP c (i 2) 1 (X V (i 0)) ∗ pcP c (i 2) 2 (X V (i 0)) ∗ pcP c (i 2) 3 (X V (i 0)))
          ∗ hold c sc2 C ∗ hold c sc3 N2 ∗ hold c sc5 (hsNext V i Mk C N2 H) ∗ hold c arg4 Mk ∗ ∃ W', owes (c : Thread nD τ) 0 W')) := by
  have hcut := fun v13 C N2 H => part11_pc c V i arg4 harg4 arg5 harg5 h5 (i 0) v13 C N2 H
  iintro ⟨⟨P0, P1, P2, P3⟩, H2, H3, HH, HM, HO⟩
  sl_unfold [cc0__body]
  sl_exec
  rw [View.readAt_rep_full]
  unfold hsNext
  sl_step
  isplitl [Hk0_part11_0 Hk0_part11_1 Hk0_part11_2 Hk0_part11_3]
  · isplitl [Hk0_part11_0]; · iexact Hk0_part11_0
    isplitl [Hk0_part11_1]; · iexact Hk0_part11_1
    isplitl [Hk0_part11_2]; · iexact Hk0_part11_2
    iexact Hk0_part11_3
  isplitl [Hk0_part11_4]; · iexact Hk0_part11_4
  isplitl [Hk0_part11_5]; · iexact Hk0_part11_5
  isplitl [Hk0_part11_6]; · iexact Hk0_part11_6
  isplitl [HM]; · iexact HM
  iexists _; iexact HO

theorem body1_last (h1 : ¬ condFirst i) (h2 : ¬ k0_cond2 i = 1#1) (h5 : k0_cond5 i = 1#1) (h7 : k0_cond7 i = 1#1) (h8 : k0_cond8 i = 1#1) (h9 : ¬ k0_cond9 i = 1#1)
    (Mk : Vec F S1x1x32768 .i32) (C : Vec F S32x32 .f32) (N2 H CT : Vec F S1x32 .f32) (A : Vec F S4 .f32) (W : Waits sig Unit) :
    iprop((pcP c (i 2) 0 (X V (i 0)) ∗ pcP c (i 2) 1 (X V (i 0)) ∗ pcP c (i 2) 2 (X V (i 0)) ∗ pcP c (i 2) 3 (X V (i 0)))
      ∗ (cellP c (i 2) 0 ∗ cellP c (i 2) 1 ∗ cellP c (i 2) 2 ∗ cellP c (i 2) 3)
      ∗ (homeP c V (nxt i) (i 2) 0 ∗ homeP c V (nxt i) (i 2) 1 ∗ homeP c V (nxt i) (i 2) 2 ∗ homeP c V (nxt i) (i 2) 3)
      ∗ hold c sc2 C ∗ hold c sc3 N2 ∗ hold c sc4 CT ∗ hold c sc5 H ∗ hold c sc6 A ∗ hold c arg4 Mk ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7)
        (fun _ => iprop((flightP c V (nxt i) (i 2) 0 ∗ flightP c V (nxt i) (i 2) 1 ∗ flightP c V (nxt i) (i 2) 2 ∗ flightP c V (nxt i) (i 2) 3)
          ∗ hold c sc2 C ∗ hold c sc3 N2 ∗ hold c sc4 CT ∗ hold c sc5 (hsNext V i Mk C N2 H) ∗ hold c sc6 (accNext C N2 (hsNext V i Mk C N2 H) CT A)
          ∗ hold c arg4 Mk ∗ ∃ W', owes (c : Thread nD τ) 0 W')) := by
  have hcut := fun v13 C N2 H => part11_pc c V i arg4 harg4 arg5 harg5 h5 (i 0) v13 C N2 H
  iintro ⟨⟨P0, P1, P2, P3⟩, ⟨C0, C1, C2, C3⟩, ⟨G0, G1, G2, G3⟩, H2, H3, HC, HH, HA, HM, HO⟩
  sl_unfold [cc0__body]
  sl_exec
  unfold body1_last.sl.r_9 body1_last.sl.r_6 body1_last.sl.r_7 body1_last.sl.r_8 body1_last.sl.r_10 body1_last.sl.r_11 body1_last.sl.r_12 body1_last.sl.f_2 body1_last.sl.f_1 body1_last.sl.f body1_last.sl.r_1 body1_last.sl.r_2 body1_last.sl.r_5 body1_last.sl.r body1_last.sl.v85 body1_last.sl.v86 body1_last.sl.r_4 body1_last.sl.r_3
  have e62 : body1_last.sl.v62 V i arg4 Mk C N2 H = hsNext V i Mk C N2 H := by
    unfold body1_last.sl.v62 hsNext
    exact (View.readAt_rep_full _ _ _).trans (by rw [View.readAt_rep_full])
  rw [e62]
  repeat rw [View.readAt_rep_full]
  rw [smem_read (off := ![0]) A 0 rfl, smem_read (off := ![1]) A 1 rfl, smem_read (off := ![2]) A 2 rfl, smem_read (off := ![3]) A 3 rfl]
  unfold hsNext accNext body1_last.sl.dma0 body1_last.sl.dma0_1 body1_last.sl.dma0_2 body1_last.sl.dma0_3
  sl_step
  isplitl [C0 C1 C2 C3]
  · isplitl [C0]; · iapply (flight_of_raw c V (nxt i) (i 2) 0 (X V (i 0))) $$ C0
    isplitl [C1]; · iapply (flight_of_raw c V (nxt i) (i 2) 1 (X V (i 0))) $$ C1
    isplitl [C2]; · iapply (flight_of_raw c V (nxt i) (i 2) 2 (X V (i 0))) $$ C2
    iapply (flight_of_raw c V (nxt i) (i 2) 3 (X V (i 0))) $$ C3
  isplitl [Hk0_part11_4]; · iexact Hk0_part11_4
  isplitl [Hk0_part11_5]; · iexact Hk0_part11_5
  isplitl [HC]; · iexact HC
  isplitl [Hk0_part11_6]; · iexact Hk0_part11_6
  isplitl [HA]; · iapply (smem_hold c _ _ _ _ _ _ _ _ _) $$ HA
  isplitl [HM]; · iexact HM
  iexists _; iexact HO

theorem body1_fin (h1 : ¬ condFirst i) (h2 : ¬ k0_cond2 i = 1#1) (h5 : k0_cond5 i = 1#1) (h7 : ¬ k0_cond7 i = 1#1) (h8 : k0_cond8 i = 1#1) (h9 : k0_cond9 i = 1#1)
    (Mk : Vec F S1x1x32768 .i32) (C : Vec F S32x32 .f32) (N2 H CT : Vec F S1x32 .f32) (A : Vec F S4 .f32) (O : Vec F S1x4 .f32) (W : Waits sig Unit) :
    iprop((pcP c (i 2) 0 (X V (i 0)) ∗ pcP c (i 2) 1 (X V (i 0)) ∗ pcP c (i 2) 2 (X V (i 0)) ∗ pcP c (i 2) 3 (X V (i 0)))
      ∗ hold c sc2 C ∗ hold c sc3 N2 ∗ hold c sc4 CT ∗ hold c sc5 H ∗ hold c sc6 A ∗ hold c arg4 Mk ∗ hold c arg5 O ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
          sc3 (Memref.isWhole_whole _) sc4 (Memref.isWhole_whole _) sc5 (Memref.isWhole_whole _) sc6 (Memref.isWhole_whole _) cc0_scratch7)
        (fun _ => iprop((pcP c (i 2) 0 (X V (i 0)) ∗ pcP c (i 2) 1 (X V (i 0)) ∗ pcP c (i 2) 2 (X V (i 0)) ∗ pcP c (i 2) 3 (X V (i 0)))
          ∗ hold c sc2 C ∗ hold c sc3 N2 ∗ hold c sc4 CT ∗ hold c sc5 (hsNext V i Mk C N2 H) ∗ hold c sc6 (accNext C N2 (hsNext V i Mk C N2 H) CT A)
          ∗ hold c arg4 Mk ∗ hold c arg5 (outOf (accNext C N2 (hsNext V i Mk C N2 H) CT A)) ∗ ∃ W', owes (c : Thread nD τ) 0 W')) := by
  have hcut := fun v13 C N2 H => part11_pc c V i arg4 harg4 arg5 harg5 h5 (i 0) v13 C N2 H
  iintro ⟨⟨P0, P1, P2, P3⟩, H2, H3, HC, HH, HA, HM, H5, HO⟩
  sl_unfold [cc0__body]
  sl_exec
  unfold body1_fin.sl.r_13 body1_fin.sl.r_14 body1_fin.sl.r_15 body1_fin.sl.r_9 body1_fin.sl.r_6 body1_fin.sl.r_7 body1_fin.sl.r_8 body1_fin.sl.r_10 body1_fin.sl.r_11 body1_fin.sl.r_12 body1_fin.sl.f_2 body1_fin.sl.f_1 body1_fin.sl.f body1_fin.sl.r_1 body1_fin.sl.r_2 body1_fin.sl.r_5 body1_fin.sl.r body1_fin.sl.v85 body1_fin.sl.v86 body1_fin.sl.r_4 body1_fin.sl.r_3
  have e62 : body1_fin.sl.v62 V i arg4 Mk C N2 H = hsNext V i Mk C N2 H := by
    unfold body1_fin.sl.v62 hsNext
    exact (View.readAt_rep_full _ _ _).trans (by rw [View.readAt_rep_full])
  rw [e62]
  repeat rw [View.readAt_rep_full]
  rw [smem_read (off := ![0]) A 0 rfl, smem_read (off := ![1]) A 1 rfl, smem_read (off := ![2]) A 2 rfl, smem_read (off := ![3]) A 3 rfl]
  unfold hsNext accNext outOf
  sl_step
  isplitl [Hk0_part11_0 Hk0_part11_1 Hk0_part11_2 Hk0_part11_3]
  · isplitl [Hk0_part11_0]; · iexact Hk0_part11_0
    isplitl [Hk0_part11_1]; · iexact Hk0_part11_1
    isplitl [Hk0_part11_2]; · iexact Hk0_part11_2
    iexact Hk0_part11_3
  isplitl [Hk0_part11_4]; · iexact Hk0_part11_4
  isplitl [Hk0_part11_5]; · iexact Hk0_part11_5
  isplitl [HC]; · iexact HC
  isplitl [Hk0_part11_6]; · iexact Hk0_part11_6
  isplitl [HA]; · iapply (smem_hold c _ _ _ _ _ _ _ _ _) $$ HA
  isplitl [HM]; · iexact HM
  isplitl [H5]; · iapply (hold_writes c arg5 _ _ _ _) $$ H5
  iexists _; iexact HO

end Cert.KernelIdeal.Hand

end
-- ==== Proof.IFirst.lean ====
/-
  The first point's prologue: the thirty-two transfers of the first sample started, one after another, over a pool of
  pieces in flight and pieces still to start.
-/
module

public import proofs.«01_k».proof.Proof.IBody1
public import Idealize.ShloMosaic.Lib.VecWindow
public import Idealize.ShloMosaic.Lib.Pipeline.BigSepL

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (V : S4x32x262144.Idx → Elt F .f32) (i : grid0.Coords) (f : S32x262144.Idx → Elt F .f32) (b : Fin 4) (hb : b.val = 0)
  (arg4 : Memref sig .tc .vmem S1x1x32768 .i32) (harg4 : arg4.IsWhole) (arg5 : Memref sig .tc .vmem S1x4 .f32) (harg5 : arg5.IsWhole)

/-- A piece whose transfer is still to start: the piece itself, its semaphore's counter at zero, its source. -/
abbrev todo (p : Fin 8 × Fin 4) : sProp 𝕄 := iprop(pcP c p.1 p.2 f ∗ cellP c p.1 p.2 ∗ homeP c V b p.1 p.2)
/-- The pieces in flight and the pieces still to start. -/
def pool (ds l : List (Fin 8 × Fin 4)) : sProp 𝕄 := iprop(bigSepL ds (fun p => flightP c V b p.1 p.2) ∗ bigSepL l (todo c V f b))

theorem start_one (k : Fin 8) (j : Fin 4) (h1 h2 h3) : todo c V f b (k, j)
    ⊢ wp frame (wpE (defs₀ (F := F)) 𝒱₀ c none) Set.univ (Prog.lift (.enqueueDma (srcp b k j) (.here (piece k j)) (.dma (csm k j).sem) h1 h2 h3)) (fun _ => flightP c V b k j) := by
  iintro ⟨P, C, G⟩
  sl_exec
  unfold start_one.sl.dma0
  sl_step
  iapply (flight_of_raw c V b k j f) $$ C

theorem ret_of {P Q : sProp 𝕄} (h : P ⊢ Q) : P ⊢ wp frame (wpE (defs₀ (F := F)) 𝒱₀ c none) Set.univ (pure ⟨⟩ : Prog (TpuEff nD τ sig (Elt F) Λ₀ .tc) PUnit) (fun _ => Q) :=
  h.trans (le_wp_ret (M := 𝕄) _ _ _ PUnit.unit (fun _ => Q))

theorem start_core {k : Fin 8} {j : Fin 4} {ds l : List (Fin 8 × Fin 4)} {src : Memref sig .tc .hbm S8x32768 .f32} {dst : Memref sig .tc .vmem S8x32768 .f32}
    {sem : DmaSems sig S_} (e1 : src = srcp b k j) (e2 : dst = piece k j) (e3 : sem = csm k j) {h1 h2 h3} :
    pool c V f b ds ((k, j) :: l) ⊢ wp frame (wpE (defs₀ (F := F)) 𝒱₀ c none) Set.univ (Prog.lift (.enqueueDma src (.here dst) (.dma sem.sem) h1 h2 h3))
      (fun _ => pool c V f b ((k, j) :: ds) l) := by
  subst e1 e2 e3
  have e : pool c V f b ds ((k, j) :: l) ⊢ iprop(todo c V f b (k, j) ∗ pool c V f b ds l) := by
    unfold pool
    rw [bigSepL_cons' (k, j) l]
    iintro ⟨D, T, L⟩
    isplitl [T]; · iexact T
    isplitl [D]; · iexact D
    iexact L
  have e' : iprop(flightP c V b k j ∗ pool c V f b ds l) ⊢ pool c V f b ((k, j) :: ds) l := by
    unfold pool
    rw [bigSepL_cons' (k, j) ds]
    iintro ⟨T, D, L⟩
    isplitl [T D]
    · isplitl [T]; · iexact T
      iexact D
    iexact L
  exact e.trans ((sep_mono (start_one c V f b k j h1 h2 h3) .rfl).trans ((wp_frame_r _ _ _).trans (wp_mono _ _ _ fun _ => e')))

theorem start_next {β : Type} {k : Fin 8} {j : Fin 4} {ds l : List (Fin 8 × Fin 4)} {src : Memref sig .tc .hbm S8x32768 .f32} {dst : Memref sig .tc .vmem S8x32768 .f32}
    {sem : DmaSems sig S_} (e1 : src = srcp b k j) (e2 : dst = piece k j) (e3 : sem = csm k j) {h1 h2 h3}
    {K : PUnit → Prog (TpuEff nD τ sig (Elt F) Λ₀ .tc) β} {Q : β → sProp 𝕄}
    (h : pool c V f b ((k, j) :: ds) l ⊢ wp frame (wpE (defs₀ (F := F)) 𝒱₀ c none) Set.univ (K ⟨⟩) Q) :
    pool c V f b ds ((k, j) :: l) ⊢ wp frame (wpE (defs₀ (F := F)) 𝒱₀ c none) Set.univ (Prog.lift (.enqueueDma src (.here dst) (.dma sem.sem) h1 h2 h3) >>= K) Q := by
  rw [wp_bind]
  exact (start_core c V f b e1 e2 e3).trans (wp_mono _ _ _ fun _ => h)

/-- The sample the first point starts is the first. -/
theorem src_first {b : Fin 4} (hb : b.val = 0) {off : Fin 3 → ℕ} {k : Fin 8} {j : Fin 4} (e : off = srcOff 0 k j) (hh hs) :
    (hbM.slice (Rect.unit (s := S4x32x262144) off S1x8x32768.size hh) hs).squeeze S8x32768 squeezes_S1x8x32768_S8x32768 = srcp b k j := by
  obtain rfl : b = 0 := Fin.ext hb
  exact srcp_congr e _ _

/-- The pieces in the order the first point starts them. -/
def order : List (Fin 8 × Fin 4) :=
  [(0, 0), (0, 1), (0, 2), (0, 3), (1, 0), (1, 1), (1, 2), (1, 3), (2, 0), (2, 1), (2, 2), (2, 3), (3, 0), (3, 1), (3, 2), (3, 3),
   (4, 0), (4, 1), (4, 2), (4, 3), (5, 0), (5, 1), (5, 2), (5, 3), (6, 0), (6, 1), (6, 2), (6, 3), (7, 0), (7, 1), (7, 2), (7, 3)]
/-- The pool once `n` transfers are started. -/
abbrev poolAt (n : ℕ) : sProp 𝕄 := pool c V f b (order.take n).reverse (order.drop n)

theorem store_one (A : Vec F S4 .f32) (z : F .f32) (k : Fin 4) {off : Fin 1 → ℕ} (h : off = ![k.val]) (hh hn hr hs hm) : hold c sc6 A
    ⊢ wp frame (wpE (defs₀ (F := F)) 𝒱₀ c none) Set.univ (smemLoad sc6 (Rect.unit (s := S4) off S1.size hh) hn hr)
      (fun _ => wp frame (wpE (defs₀ (F := F)) 𝒱₀ c none) Set.univ (Prog.lift (.store sc6 (Rect.unit (s := S4) off S1.size hh) (fun _ => z) Finset.univ hs hm))
        (fun _ => hold c sc6 (Function.update A (sm k) z))) := by
  subst h
  rw [← wp_bind]
  iintro H
  sl_exec
  sl_step
  refine Eq.subst (motive := fun x => _ ⊢ x) (pts_of_read c sc6 _ _ ?_) .rfl
  rw [View.read_rep]
  funext y
  obtain ⟨j, rfl⟩ : ∃ j, y = sm j := ⟨⟨(y 0).val, (y 0).isLt⟩, funext fun a => by fin_cases a; rfl⟩
  rw [View.read_writes_cons_unit _ _ _ _ _ _ rfl]
  by_cases e : j = k
  · subst e
    rw [Function.update_self, dif_pos]
    intro a; fin_cases a
    show j.val ≤ j.val ∧ j.val < j.val + 1; omega
  · rw [Function.update_of_ne, dif_neg]
    · exact congrFun (View.read_rep sc6.view A) (sm j)
    · intro h
      have h0 : k.val ≤ j.val ∧ j.val < k.val + 1 := h 0
      exact e (Fin.ext (by omega))
    · intro h
      exact e (Fin.ext (congrArg (fun x : S4.Idx => (x 0).val) h))

theorem store_next {β : Type} {A : Vec F S4 .f32} {z : F .f32} {R : sProp 𝕄} (k : Fin 4) {off : Fin 1 → ℕ} (h : off = ![k.val]) {hh hn hr hs hm}
    {K : PUnit → Prog (TpuEff nD τ sig (Elt F) Λ₀ .tc) β} {Q : β → sProp 𝕄}
    (hK : iprop(hold c sc6 (Function.update A (sm k) z) ∗ R) ⊢ wp frame (wpE (defs₀ (F := F)) 𝒱₀ c none) Set.univ (K ⟨⟩) Q) :
    iprop(hold c sc6 A ∗ R) ⊢ wp frame (wpE (defs₀ (F := F)) 𝒱₀ c none) Set.univ (smemLoad sc6 (Rect.unit (s := S4) off S1.size hh) hn hr >>= fun _ =>
      Prog.lift (.store sc6 (Rect.unit (s := S4) off S1.size hh) (fun _ => z) Finset.univ hs hm) >>= K) Q := by
  rw [wp_bind]
  refine (sep_mono (store_one c A z k h hh hn hr hs hm) .rfl).trans ((wp_frame_r _ _ _).trans (wp_mono _ _ _ fun _ => ?_))
  rw [wp_bind]
  exact (wp_frame_r _ _ _).trans (wp_mono _ _ _ fun _ => hK)

theorem start_next' {β : Type} {k : Fin 8} {j : Fin 4} {ds l : List (Fin 8 × Fin 4)} {src : Memref sig .tc .hbm S8x32768 .f32} {dst : Memref sig .tc .vmem S8x32768 .f32}
    {sem : DmaSems sig S_} (e1 : src = srcp b k j) (e2 : dst = piece k j) (e3 : sem = csm k j) {h1 h2 h3} {R : sProp 𝕄}
    {K : PUnit → Prog (TpuEff nD τ sig (Elt F) Λ₀ .tc) β} {Q : β → sProp 𝕄}
    (h : iprop(R ∗ pool c V f b ((k, j) :: ds) l) ⊢ wp frame (wpE (defs₀ (F := F)) 𝒱₀ c none) Set.univ (K ⟨⟩) Q) :
    iprop(R ∗ pool c V f b ds ((k, j) :: l)) ⊢ wp frame (wpE (defs₀ (F := F)) 𝒱₀ c none) Set.univ (Prog.lift (.enqueueDma src (.here dst) (.dma sem.sem) h1 h2 h3) >>= K) Q := by
  rw [wp_bind]
  exact (sep_mono .rfl (start_core c V f b e1 e2 e3 (h1 := h1) (h2 := h2) (h3 := h3))).trans ((wp_frame_l _ _ _).trans (wp_mono _ _ _ fun _ => h))

/-- All four accumulators zero. -/
def accZero : Vec F S4 .f32 := fun _ => Scalar.ofBits .f32 0x00000000#32

theorem zeros_hold (A : Vec F S4 .f32) (z : F .f32 := Scalar.ofBits .f32 0x00000000#32) :
    hold c sc6 (Function.update (Function.update (Function.update (Function.update A (sm 0) z) (sm 1) z) (sm 2) z) (sm 3) z) ⊢ hold c sc6 (fun _ => z) := by
  have e : Function.update (Function.update (Function.update (Function.update A (sm 0) z) (sm 1) z) (sm 2) z) (sm 3) z = fun _ => z := by
    funext y
    obtain ⟨j, rfl⟩ : ∃ j, y = sm j := ⟨⟨(y 0).val, (y 0).isLt⟩, funext fun a => by fin_cases a; rfl⟩
    have hne : ∀ a b : Fin 4, a ≠ b → sm a ≠ sm b := fun a b h h' => h (Fin.ext (congrArg (fun x : S4.Idx => (x 0).val) h'))
    fin_cases j
    · rw [Function.update_of_ne (hne _ _ (by decide)), Function.update_of_ne (hne _ _ (by decide)), Function.update_of_ne (hne _ _ (by decide))]; exact Function.update_self ..
    · rw [Function.update_of_ne (hne _ _ (by decide)), Function.update_of_ne (hne _ _ (by decide))]; exact Function.update_self ..
    · rw [Function.update_of_ne (hne _ _ (by decide))]; exact Function.update_self ..
    · exact Function.update_self ..
  rw [e]

include hb in
theorem part1_wp (A : Vec F S4 .f32) : iprop(hold c sc6 A ∗ poolAt c V f b 0) ⊢ wp frame (wpE (defs₀ (F := F)) 𝒱₀ c none) Set.univ (k0_part1 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7)
    (fun _ => iprop(hold c sc6 accZero ∗ poolAt c V f b 3)) := by
  rw [k0_part1_eq_skeleton]
  unfold k0_part1_skel
  refine store_next c 0 rfl (store_next c 1 rfl (store_next c 2 rfl (store_next c 3 rfl ?_)))
  iterate 3 refine start_next' c V f b (src_first hb rfl _ _) (piece_congr rfl _ _) (csm_congr rfl _) ?_
  exact ret_of c (sep_mono (zeros_hold c A) .rfl)

include hb in
theorem part2_wp : poolAt c V f b 3 ⊢ wp frame (wpE (defs₀ (F := F)) 𝒱₀ c none) Set.univ (k0_part2 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7) (fun _ => poolAt c V f b 8) := by
  rw [k0_part2_eq_skeleton]
  unfold k0_part2_skel
  iterate 5 refine start_next c V f b (src_first hb rfl _ _) (piece_congr rfl _ _) (csm_congr rfl _) ?_
  exact ret_of c .rfl
include hb in
theorem part3_wp : poolAt c V f b 8 ⊢ wp frame (wpE (defs₀ (F := F)) 𝒱₀ c none) Set.univ (k0_part3 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7) (fun _ => poolAt c V f b 12) := by
  rw [k0_part3_eq_skeleton]
  unfold k0_part3_skel
  iterate 4 refine start_next c V f b (src_first hb rfl _ _) (piece_congr rfl _ _) (csm_congr rfl _) ?_
  exact ret_of c .rfl
include hb in
theorem part4_wp : poolAt c V f b 12 ⊢ wp frame (wpE (defs₀ (F := F)) 𝒱₀ c none) Set.univ (k0_part4 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7) (fun _ => poolAt c V f b 17) := by
  rw [k0_part4_eq_skeleton]
  unfold k0_part4_skel
  iterate 5 refine start_next c V f b (src_first hb rfl _ _) (piece_congr rfl _ _) (csm_congr rfl _) ?_
  exact ret_of c .rfl
include hb in
theorem part5_wp : poolAt c V f b 17 ⊢ wp frame (wpE (defs₀ (F := F)) 𝒱₀ c none) Set.univ (k0_part5 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7) (fun _ => poolAt c V f b 21) := by
  rw [k0_part5_eq_skeleton]
  unfold k0_part5_skel
  iterate 4 refine start_next c V f b (src_first hb rfl _ _) (piece_congr rfl _ _) (csm_congr rfl _) ?_
  exact ret_of c .rfl
include hb in
theorem part6_wp : poolAt c V f b 21 ⊢ wp frame (wpE (defs₀ (F := F)) 𝒱₀ c none) Set.univ (k0_part6 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7) (fun _ => poolAt c V f b 26) := by
  rw [k0_part6_eq_skeleton]
  unfold k0_part6_skel
  iterate 5 refine start_next c V f b (src_first hb rfl _ _) (piece_congr rfl _ _) (csm_congr rfl _) ?_
  exact ret_of c .rfl
include hb in
theorem part7_wp : poolAt c V f b 26 ⊢ wp frame (wpE (defs₀ (F := F)) 𝒱₀ c none) Set.univ (k0_part7 i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7) (fun _ => poolAt c V f b 31) := by
  rw [k0_part7_eq_skeleton]
  unfold k0_part7_skel
  iterate 5 refine start_next c V f b (src_first hb rfl _ _) (piece_congr rfl _ _) (csm_congr rfl _) ?_
  exact ret_of c .rfl

/-- The transfers of a list of pieces in flight with sample `b`. -/
@[irreducible] def flying (b : Fin 4) (l : List (Fin 8 × Fin 4)) : sProp 𝕄 := bigSepL l (fun p => flightP c V b p.1 p.2)

theorem flying_eq (b : Fin 4) (l : List (Fin 8 × Fin 4)) : flying c V b l = bigSepL l (fun p => flightP c V b p.1 p.2) := by unfold flying; rfl

theorem pool_last (b' : Fin 4) (hb' : b' = 0) (k : Fin 8) (hk : k = 0) :
    poolAt c V f 0 31 ⊢ iprop((flightP c V b' k 0 ∗ flightP c V b' k 1 ∗ flightP c V b' k 2 ∗ flightP c V b' k 3)
      ∗ flying c V 0 ((order.drop 4).take 27) ∗ pcP c 7 3 f ∗ cellP c 7 3 ∗ homeP c V 0 7 3) := by
  subst hb' hk
  have e : bigSepL (order.take 31).reverse (fun p => flightP c V 0 p.1 p.2) = bigSepL (order.take 31) (fun p => flightP c V 0 p.1 p.2) :=
    (bigSep_eq_bigSepL_of_eq (S := (order.take 31).toFinset) (order.take 31).reverse (by decide) (by decide) _).symm.trans (bigSep_eq_bigSepL_of_eq (order.take 31) rfl (by decide) _)
  have e' : bigSepL (order.take 31) (fun p => flightP c V 0 p.1 p.2) = iprop(flightP c V 0 0 0 ∗ flightP c V 0 0 1 ∗ flightP c V 0 0 2 ∗ flightP c V 0 0 3
      ∗ flying c V 0 ((order.drop 4).take 27)) := by rw [flying_eq]; rfl
  unfold poolAt pool
  rw [e, e']
  rw [show order.drop 31 = [(7, 3)] from by decide, bigSepL_singleton]
  iintro ⟨⟨F0, F1, F2, F3, L⟩, T⟩
  isplitl [F0 F1 F2 F3]
  · isplitl [F0]; · iexact F0
    isplitl [F1]; · iexact F1
    isplitl [F2]; · iexact F2
    iexact F3
  isplitl [L]; · iexact L
  iexact T

theorem sem_last : (csm 7 3).sem = ⟨34, by decide⟩ := by decide
/-- The last transfer's flight, its semaphore written out. -/
theorem flight_last : Transfers.Flight countersEmb (c : Thread nD τ) (SemLoc.dma ⟨34, by decide⟩) default 32768
    iprop(((piece 7 3).view.loc (c : Thread nD τ) ↦[(piece 7 3).view.set]{fullShare} (piece 7 3).view.writes (Elt F) f
      [⟨Rect.whole S8x32768, ReadAs.same.apply ((srcp 0 7 3).view.read (Elt F) V)⟩]) ∗ homeP c V 0 7 3) ⊢ flightP c V 0 7 3 := by
  have t := flight_of_raw c V 0 7 3 f
  rw [sem_last] at t
  exact t

theorem flying_last : iprop(flying c V 0 ((order.drop 4).take 27) ∗ flightP c V 0 7 3) ⊢ flying c V 0 (order.drop 4) := by
  have e : flying c V 0 (order.drop 4) = flying c V 0 ((7, 3) :: (order.drop 4).take 27) := by
    rw [flying_eq, flying_eq]
    exact (bigSep_eq_bigSepL_of_eq (S := (order.drop 4).toFinset) (order.drop 4) rfl (by decide) _).symm.trans (bigSep_eq_bigSepL_of_eq ((7, 3) :: (order.drop 4).take 27) (by decide) (by decide) _)
  have e' : flying c V 0 ((7, 3) :: (order.drop 4).take 27) = iprop(flightP c V 0 7 3 ∗ flying c V 0 ((order.drop 4).take 27)) := by
    rw [flying_eq, flying_eq]; exact bigSepL_cons' (7, 3) ((order.drop 4).take 27) _
  rw [e, e']
  iintro ⟨L, T⟩
  isplitl [T]; · iexact T
  iexact L

@[sl_canon] theorem pieceL (hh hs) : bufM.slice (Rect.unit (s := S32x262144) ![24, 229376] S8x32768.size hh) hs = piece 7 3 := piece_congr (k := 7) (j := 3) (by decide) _ _
@[sl_canon] theorem srcL (hh hs) : (hbM.slice (Rect.unit (s := S4x32x262144) ![0, 24, 229376] S1x8x32768.size hh) hs).squeeze S8x32768 squeezes_S1x8x32768_S8x32768 = srcp 0 7 3 := srcp_congr (b := 0) (k := 7) (j := 3) (by decide) _ _

theorem body_first (h1 : condFirst i) (h2 : k0_cond2 i = 1#1) (h5 : ¬ k0_cond5 i = 1#1) (h : ¬ (i 2).val = 7) (h0 : i 0 = (0 : Fin 4)) (hk : i 2 = (0 : Fin 8))
    (Mk : Vec F S1x1x32768 .i32) (S : Vec F S32x32 .f32) (CT : Vec F S1x32 .f32) (A : Vec F S4 .f32) (W : Waits sig Unit) :
    iprop(poolAt c V f 0 0 ∗ hold c sc6 A ∗ hold c sc1 S ∗ hold c sc4 CT ∗ hold c arg4 Mk ∗ owes (c : Thread nD τ) 0 W)
    ⊢ wp frame (wpE (defs₀ (F := F)) 𝒱₀ c none) Set.univ
        (cc0__body i hbM (Memref.isWhole_whole _) arg4 harg4 arg5 harg5 bufM (Memref.isWhole_whole _) sc1 (Memref.isWhole_whole _) sc2 (Memref.isWhole_whole _)
      sc3 (Memref.isWhole_whole _) sc4 (Memref.isWhole_whole _) sc5 (Memref.isWhole_whole _) sc6 (Memref.isWhole_whole _) cc0_scratch7)
        (fun _ => iprop(slP c (i 2) (X V (i 0)) ∗ (cellP c (i 2) 0 ∗ cellP c (i 2) 1 ∗ cellP c (i 2) 2 ∗ cellP c (i 2) 3)
          ∗ (homeP c V (i 0) (i 2) 0 ∗ homeP c V (i 0) (i 2) 1 ∗ homeP c V (i 0) (i 2) 2 ∗ homeP c V (i 0) (i 2) 3)
          ∗ flying c V 0 (order.drop 4) ∗ hold c sc6 accZero
          ∗ hold c sc1 (sumNext V i Mk S) ∗ hold c sc4 (cntNext i Mk CT) ∗ hold c arg4 Mk ∗ ∃ W', owes (c : Thread nD τ) 0 W')) := by
  have hcut := fun S CT W => part8_wp c V i arg4 harg4 arg5 harg5 h2 S CT W
  have hcut1 := part1_wp c V i f 0 rfl arg4 harg4 arg5 harg5 A
  have hcut2 := part2_wp c V i f 0 rfl arg4 harg4 arg5 harg5
  have hcut3 := part3_wp c V i f 0 rfl arg4 harg4 arg5 harg5
  have hcut4 := part4_wp c V i f 0 rfl arg4 harg4 arg5 harg5
  have hcut5 := part5_wp c V i f 0 rfl arg4 harg4 arg5 harg5
  have hcut6 := part6_wp c V i f 0 rfl arg4 harg4 arg5 harg5
  have hcut7 := (part7_wp c V i f 0 rfl arg4 harg4 arg5 harg5).trans (wp_mono _ _ _ fun _ => pool_last c V f (i 0) h0 (i 2) hk)
  iintro ⟨HP, HA, HS, HC, HM, HO⟩
  sl_unfold [cc0__body]
  have h7 := (condN7_iff i).not.mpr h
  sl_exec
  unfold body_first.sl.v55 body_first.sl.v61 body_first.sl.dma0
  rw [slot_load V (i 0) (i 2) (k0_off13_eq i), View.readAt_rep_full, View.readAt_rep_full, View.readAt_rep_full]
  unfold sumNext cntNext
  sl_step
  isplitl [Hk0_part8_0]; · iexact Hk0_part8_0
  isplitl [Hk0_part8_1 Hk0_part8_2 Hk0_part8_3 Hk0_part8_4]
  · isplitl [Hk0_part8_1]; · iexact Hk0_part8_1
    isplitl [Hk0_part8_2]; · iexact Hk0_part8_2
    isplitl [Hk0_part8_3]; · iexact Hk0_part8_3
    iexact Hk0_part8_4
  isplitl [Hk0_part8_5 Hk0_part8_6 Hk0_part8_7 Hk0_part8_8]
  · isplitl [Hk0_part8_5]; · iexact Hk0_part8_5
    isplitl [Hk0_part8_6]; · iexact Hk0_part8_6
    isplitl [Hk0_part8_7]; · iexact Hk0_part8_7
    iexact Hk0_part8_8
  isplitl [Hk0_part7_4 Hk0_part7_6]
  · iapply (flying_last c V)
    isplitl [Hk0_part7_4]; · iexact Hk0_part7_4
    iapply (flight_last c V f) $$ Hk0_part7_6
  isplitl [Hk0_part1_0]; · iexact Hk0_part1_0
  isplitl [Hk0_part8_9]; · iapply (hold_writes c sc1 _ _ _ _) $$ Hk0_part8_9
  isplitl [Hk0_part8_10]; · iapply (hold_writes c sc4 _ _ _ _) $$ Hk0_part8_10
  isplitl [HM]; · iexact HM
  iexists _; iexact Hk0_part8_11

end Cert.KernelIdeal.Hand

end
-- ==== Proof.IStep.lean ====
/-
  The grid point's step: what the body does to its slot of the embedding buffer and to the scratch, the seven kinds of
  point put under one statement.
-/
module

public import proofs.«01_k».proof.Proof.IFirst
public import Idealize.ShloMosaic.Lib.VecWindow
public import Idealize.ShloMosaic.Lib.Pipeline.BigSepL

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Fam
variable (c : Dev nD) (V : S4x32x262144.Idx → Elt F .f32)

/-! ## The buffer's pieces, point by point -/

/-- A piece's sources in every sample. -/
def homes (p : Fin 8 × Fin 4) : sProp 𝕄 := bigSep Finset.univ (fun b => homeP c V b p.1 p.2)
/-- A piece's sources in every sample but `b`. -/
def others (b : Fin 4) (p : Fin 8 × Fin 4) : sProp 𝕄 := bigSep (Finset.univ.erase b) (fun b => homeP c V b p.1 p.2)

theorem homes_eq (b : Fin 4) (k : Fin 8) (j : Fin 4) : homes c V (k, j) = iprop(homeP c V b k j ∗ others c V b (k, j)) := by
  unfold homes others; exact BI.bigSep_erase (Finset.mem_univ b)
theorem homes_pick (b : Fin 4) (k : Fin 8) (j : Fin 4) : homes c V (k, j) ⊢ iprop(homeP c V b k j ∗ others c V b (k, j)) := (homes_eq c V b k j) ▸ .rfl
theorem homes_back (b : Fin 4) (k : Fin 8) (j : Fin 4) : iprop(homeP c V b k j ∗ others c V b (k, j)) ⊢ homes c V (k, j) := (homes_eq c V b k j) ▸ .rfl

/-- A piece that holds sample `b`, nothing in flight on it. -/
def landP (b : Fin 4) (p : Fin 8 × Fin 4) : sProp 𝕄 := iprop(pcP c p.1 p.2 (X V b) ∗ cellP c p.1 p.2 ∗ homes c V p)
/-- A piece in flight with sample `b`. -/
def airP (b : Fin 4) (p : Fin 8 × Fin 4) : sProp 𝕄 := iprop(flightP c V b p.1 p.2 ∗ others c V b p)
/-- A piece in flight, or landed, with a sample. -/
def stP (s : Bool × Fin 4) (p : Fin 8 × Fin 4) : sProp 𝕄 := match s with | (true, b) => airP c V b p | (false, b) => landP c V b p

/-- A slot's four pieces. -/
abbrev four (Φ : Fin 8 × Fin 4 → sProp 𝕄) (k : Fin 8) : sProp 𝕄 := iprop(Φ (k, 0) ∗ Φ (k, 1) ∗ Φ (k, 2) ∗ Φ (k, 3))

theorem split_slot (k : Fin 8) (Φ : Fin 8 × Fin 4 → sProp 𝕄) :
    bigSep Finset.univ Φ = iprop(four Φ k ∗ bigSep (Finset.univ.filter fun p => p.1 ≠ k) Φ) := by
  have e : (Finset.univ.filter fun p : Fin 8 × Fin 4 => p.1 = k) = ([(k, 0), (k, 1), (k, 2), (k, 3)] : List (Fin 8 × Fin 4)).toFinset := by
    revert k; decide
  have n : ([(k, 0), (k, 1), (k, 2), (k, 3)] : List (Fin 8 × Fin 4)).Nodup := by revert k; decide
  have e2 := bigSep_eq_bigSepL_of_eq _ e n Φ
  rw [BI.bigSep_filter_split Finset.univ (fun p : Fin 8 × Fin 4 => p.1 = k), e2]
  rfl

theorem four_join (Φ Ψ : Fin 8 × Fin 4 → sProp 𝕄) (k : Fin 8) : iprop(four Φ k ∗ four Ψ k) ⊢ four (fun p => iprop(Φ p ∗ Ψ p)) k := by
  iintro ⟨⟨A0, A1, A2, A3⟩, B0, B1, B2, B3⟩
  isplitl [A0 B0]; · isplitl [A0] <;> [iexact A0; iexact B0]
  isplitl [A1 B1]; · isplitl [A1] <;> [iexact A1; iexact B1]
  isplitl [A2 B2]; · isplitl [A2] <;> [iexact A2; iexact B2]
  isplitl [A3] <;> [iexact A3; iexact B3]
theorem four_split (Φ Ψ : Fin 8 × Fin 4 → sProp 𝕄) (k : Fin 8) : four (fun p => iprop(Φ p ∗ Ψ p)) k ⊢ iprop(four Φ k ∗ four Ψ k) := by
  iintro ⟨⟨A0, B0⟩, ⟨A1, B1⟩, ⟨A2, B2⟩, A3, B3⟩
  isplitl [A0 A1 A2 A3]
  · isplitl [A0]; · iexact A0
    isplitl [A1]; · iexact A1
    isplitl [A2] <;> [iexact A2; iexact A3]
  isplitl [B0]; · iexact B0
  isplitl [B1]; · iexact B1
  isplitl [B2] <;> [iexact B2; iexact B3]
theorem four_mono {Φ Ψ : Fin 8 × Fin 4 → sProp 𝕄} (h : ∀ p, Φ p ⊢ Ψ p) (k : Fin 8) : four Φ k ⊢ four Ψ k :=
  BIClass.sep_mono (h _) (BIClass.sep_mono (h _) (BIClass.sep_mono (h _) (h _)))

/-- A landed slot's pieces, its counters and its sources. -/
theorem land_open (b b' : Fin 4) (k : Fin 8) : four (landP c V b) k
    ⊢ iprop(four (fun p => pcP c p.1 p.2 (X V b)) k ∗ four (fun p => cellP c p.1 p.2) k ∗ four (fun p => homeP c V b' p.1 p.2) k ∗ four (others c V b') k) :=
  (four_split (fun p => pcP c p.1 p.2 (X V b)) (fun p => iprop(cellP c p.1 p.2 ∗ homes c V p)) k).trans
    (sep_mono .rfl ((four_split (fun p => cellP c p.1 p.2) (homes c V) k).trans (sep_mono .rfl
      ((four_mono (fun p => homes_pick c V b' p.1 p.2) k).trans (four_split (fun p => homeP c V b' p.1 p.2) (others c V b') k)))))
theorem land_close (b b' : Fin 4) (k : Fin 8) :
    iprop(four (fun p => pcP c p.1 p.2 (X V b)) k ∗ four (fun p => cellP c p.1 p.2) k ∗ four (fun p => homeP c V b' p.1 p.2) k ∗ four (others c V b') k)
    ⊢ four (landP c V b) k :=
  (sep_mono .rfl ((sep_mono .rfl ((four_join (fun p => homeP c V b' p.1 p.2) (others c V b') k).trans
    (four_mono (fun p => homes_back c V b' p.1 p.2) k))).trans (four_join (fun p => cellP c p.1 p.2) (homes c V) k))).trans
    (four_join (fun p => pcP c p.1 p.2 (X V b)) (fun p => iprop(cellP c p.1 p.2 ∗ homes c V p)) k)

theorem air_open (b : Fin 4) (k : Fin 8) : four (airP c V b) k ⊢ iprop(four (fun p => flightP c V b p.1 p.2) k ∗ four (others c V b) k) :=
  four_split (fun p => flightP c V b p.1 p.2) (others c V b) k
theorem air_close (b : Fin 4) (k : Fin 8) : iprop(four (fun p => flightP c V b p.1 p.2) k ∗ four (others c V b) k) ⊢ four (airP c V b) k :=
  four_join (fun p => flightP c V b p.1 p.2) (others c V b) k

end Fam

/-! ## The scratch, point by point -/

/-- What the scratch holds: class sums, class means, their squared norms, class counts, hinge sums, accumulators. -/
structure St (F : FTy → Type) where
  S : Vec F S32x32 .f32
  C : Vec F S32x32 .f32
  N2 : Vec F S1x32 .f32
  CT : Vec F S1x32 .f32
  H : Vec F S1x32 .f32
  A : Vec F S4 .f32

variable (c : Dev nD) (V : S4x32x262144.Idx → Elt F .f32) (i : grid0.Coords)
  (arg4 : Memref sig .tc .vmem S1x1x32768 .i32) (harg4 : arg4.IsWhole) (arg5 : Memref sig .tc .vmem S1x4 .f32) (harg5 : arg5.IsWhole)

/-- The scratch buffers held at a state. -/
abbrev scr (s : St F) : sProp 𝕄 :=
  iprop(hold c sc1 s.S ∗ hold c sc2 s.C ∗ hold c sc3 s.N2 ∗ hold c sc4 s.CT ∗ hold c sc5 s.H ∗ hold c sc6 s.A)

/-- What a point does to the scratch. -/
def stepSt (Mk : Vec F S1x1x32768 .i32) (s : St F) : St F where
  S := if (i 1).val = 0 then sumNext V i Mk s.S else s.S
  CT := if (i 1).val = 0 then cntNext i Mk s.CT else s.CT
  C := if (i 1).val = 0 ∧ (i 2).val = 7 then k0_pay5 (cntNext i Mk s.CT) (sumNext V i Mk s.S) else s.C
  N2 := if (i 1).val = 0 ∧ (i 2).val = 7 then k0_pay6 (cntNext i Mk s.CT) (sumNext V i Mk s.S) else s.N2
  H := if (i 1).val = 0 then s.H else hsNext V i Mk s.C s.N2 s.H
  A := if (i 0).val = 0 ∧ (i 1).val = 0 ∧ (i 2).val = 0 then accZero
    else if (i 1).val = 1 ∧ (i 2).val = 7 then accNext s.C s.N2 (hsNext V i Mk s.C s.N2 s.H) s.CT s.A else s.A

/-- The body at a point. -/
abbrev theBody : Prog (TpuEff nD τ sig (Elt F) Λ₀ .tc) PUnit :=
  cc0__body i hbM (Memref.isWhole_whole _) arg4 harg4 arg5 harg5 bufM (Memref.isWhole_whole _) sc1 (Memref.isWhole_whole _) sc2 (Memref.isWhole_whole _)
    sc3 (Memref.isWhole_whole _) sc4 (Memref.isWhole_whole _) sc5 (Memref.isWhole_whole _) sc6 (Memref.isWhole_whole _) cc0_scratch7

theorem framed {P Q P' Q' : sProp 𝕄} {e : Prog (TpuEff nD τ sig (Elt F) Λ₀ .tc) PUnit} (R : sProp 𝕄)
    (h : P ⊢ wp frame (wpE (defs₀ (F := F)) 𝒱₀ c none) Set.univ e (fun _ => Q)) (h1 : P' ⊢ iprop(P ∗ R)) (h2 : iprop(Q ∗ R) ⊢ Q') :
    P' ⊢ wp frame (wpE (defs₀ (F := F)) 𝒱₀ c none) Set.univ e (fun _ => Q') :=
  h1.trans ((sep_mono h .rfl).trans ((wp_frame_r _ _ _).trans (wp_mono _ _ _ fun _ => h2)))

/-- A point of the first phase. -/
theorem step0 (hf : ¬ ((i 0).val = 0 ∧ (i 1).val = 0 ∧ (i 2).val = 0)) (hp : (i 1).val = 0)
    (Mk : Vec F S1x1x32768 .i32) (s : St F) (W : Waits sig Unit) :
    iprop(four (airP c V (i 0)) (i 2) ∗ scr c s ∗ hold c arg4 Mk ∗ owes (c : Thread nD τ) 0 W)
    ⊢ wp frame (wpE (defs₀ (F := F)) 𝒱₀ c none) Set.univ (theBody i arg4 harg4 arg5 harg5)
        (fun _ => iprop(four (landP c V (i 0)) (i 2) ∗ scr c (stepSt V i Mk s) ∗ hold c arg4 Mk ∗ ∃ W', owes (c : Thread nD τ) 0 W')) := by
  have h1 := (condFirst_iff i).not.mpr hf
  have h2 := (cond2_iff i).mpr hp
  have hp1 : ¬ (i 1).val = 1 := by omega
  have h5 := (cond5_iff i).not.mpr hp1
  have run : iprop(four (fun p => flightP c V (i 0) p.1 p.2) (i 2)
      ∗ hold c sc1 s.S ∗ hold c sc2 s.C ∗ hold c sc3 s.N2 ∗ hold c sc4 s.CT ∗ hold c arg4 Mk ∗ owes (c : Thread nD τ) 0 W)
    ⊢ wp frame (wpE (defs₀ (F := F)) 𝒱₀ c none) Set.univ (theBody i arg4 harg4 arg5 harg5)
        (fun _ => iprop(slP c (i 2) (X V (i 0)) ∗ four (fun p => cellP c p.1 p.2) (i 2) ∗ four (fun p => homeP c V (i 0) p.1 p.2) (i 2)
          ∗ hold c sc1 (stepSt V i Mk s).S ∗ hold c sc2 (stepSt V i Mk s).C ∗ hold c sc3 (stepSt V i Mk s).N2
          ∗ hold c sc4 (stepSt V i Mk s).CT ∗ hold c arg4 Mk
          ∗ ∃ W', owes (c : Thread nD τ) 0 W')) := by
    unfold stepSt
    dsimp only
    rw [if_pos hp, if_pos hp]
    simp only [hp, true_and]
    by_cases h : (i 2).val = 7
    · exact body0_last c V i arg4 harg4 arg5 harg5 h1 h2 h5 h Mk s.S s.C s.CT s.N2 W
    · exact body0_mid c V i arg4 harg4 arg5 harg5 h1 h2 h5 h Mk s.S s.C s.CT s.N2 W
  have eH : (stepSt V i Mk s).H = s.H := if_pos hp
  have eA : (stepSt V i Mk s).A = s.A := (if_neg hf).trans (if_neg fun h => hp1 h.1)
  refine framed c iprop(four (others c V (i 0)) (i 2) ∗ hold c sc5 s.H ∗ hold c sc6 s.A) run ?_ ?_
  · refine (sep_mono (air_open c V (i 0) (i 2)) .rfl).trans ?_
    iintro ⟨⟨Fl, Ot⟩, ⟨H1, H2, H3, H4, H5, H6⟩, HM, HW⟩
    isplitl [Fl H1 H2 H3 H4 HM HW]
    · isplitl [Fl]; · iexact Fl
      isplitl [H1]; · iexact H1
      isplitl [H2]; · iexact H2
      isplitl [H3]; · iexact H3
      isplitl [H4]; · iexact H4
      isplitl [HM] <;> [iexact HM; iexact HW]
    isplitl [Ot]; · iexact Ot
    isplitl [H5] <;> [iexact H5; iexact H6]
  · unfold scr
    rw [eH, eA]
    iintro ⟨⟨Sl, Ce, Ho, H1, H2, H3, H4, HM, HW⟩, Ot, H5, H6⟩
    isplitl [Sl Ce Ho Ot]
    · iapply (land_close c V (i 0) (i 0) (i 2))
      isplitl [Sl]; · iapply (slot_split c (i 2) (X V (i 0))) $$ Sl
      isplitl [Ce]; · iexact Ce
      isplitl [Ho] <;> [iexact Ho; iexact Ot]
    isplitl [H1 H2 H3 H4 H5 H6]
    · isplitl [H1]; · iexact H1
      isplitl [H2]; · iexact H2
      isplitl [H3]; · iexact H3
      isplitl [H4]; · iexact H4
      isplitl [H5] <;> [iexact H5; iexact H6]
    isplitl [HM] <;> [iexact HM; iexact HW]

/-- A point of the second phase with another sample to come. -/
theorem step1 (hp : (i 1).val = 1) (hb : (i 0).val + 1 < 4) (Mk : Vec F S1x1x32768 .i32) (s : St F) (W : Waits sig Unit) :
    iprop(four (landP c V (i 0)) (i 2) ∗ scr c s ∗ hold c arg4 Mk ∗ owes (c : Thread nD τ) 0 W)
    ⊢ wp frame (wpE (defs₀ (F := F)) 𝒱₀ c none) Set.univ (theBody i arg4 harg4 arg5 harg5)
        (fun _ => iprop(four (airP c V (nxt i)) (i 2) ∗ scr c (stepSt V i Mk s) ∗ hold c arg4 Mk ∗ ∃ W', owes (c : Thread nD τ) 0 W')) := by
  have hp0 : ¬ (i 1).val = 0 := by omega
  have h1 := (condFirst_iff i).not.mpr fun h => hp0 h.2.1
  have h2 := (cond2_iff i).not.mpr hp0
  have h5 := (cond5_iff i).mpr hp
  have h7 := (cond7_iff i).mpr hb
  have h9 := (cond9_iff i).not.mpr (by omega)
  have run : iprop(four (fun p => pcP c p.1 p.2 (X V (i 0))) (i 2) ∗ four (fun p => cellP c p.1 p.2) (i 2) ∗ four (fun p => homeP c V (nxt i) p.1 p.2) (i 2)
      ∗ hold c sc2 s.C ∗ hold c sc3 s.N2 ∗ hold c sc4 s.CT ∗ hold c sc5 s.H ∗ hold c sc6 s.A ∗ hold c arg4 Mk ∗ owes (c : Thread nD τ) 0 W)
    ⊢ wp frame (wpE (defs₀ (F := F)) 𝒱₀ c none) Set.univ (theBody i arg4 harg4 arg5 harg5)
        (fun _ => iprop(four (fun p => flightP c V (nxt i) p.1 p.2) (i 2)
          ∗ hold c sc2 s.C ∗ hold c sc3 s.N2 ∗ hold c sc4 s.CT ∗ hold c sc5 (hsNext V i Mk s.C s.N2 s.H)
          ∗ hold c sc6 (if (i 2).val = 7 then accNext s.C s.N2 (hsNext V i Mk s.C s.N2 s.H) s.CT s.A else s.A)
          ∗ hold c arg4 Mk ∗ ∃ W', owes (c : Thread nD τ) 0 W')) := by
    by_cases h : (i 2).val = 7
    · rw [if_pos h]
      exact body1_last c V i arg4 harg4 arg5 harg5 h1 h2 h5 h7 ((cond8_iff i).mpr h) h9 Mk s.C s.N2 s.H s.CT s.A W
    · rw [if_neg h]
      refine framed c iprop(hold c sc4 s.CT ∗ hold c sc6 s.A) (body1_pre c V i arg4 harg4 arg5 harg5 h1 h2 h5 h7 ((cond8_iff i).not.mpr h) Mk s.C s.N2 s.H W) ?_ ?_
      · iintro ⟨P, Ce, Ho, H2, H3, H4, H5, H6, HM, HW⟩
        isplitl [P Ce Ho H2 H3 H5 HM HW]
        · isplitl [P]; · iexact P
          isplitl [Ce]; · iexact Ce
          isplitl [Ho]; · iexact Ho
          isplitl [H2]; · iexact H2
          isplitl [H3]; · iexact H3
          isplitl [H5]; · iexact H5
          isplitl [HM] <;> [iexact HM; iexact HW]
        isplitl [H4] <;> [iexact H4; iexact H6]
      · iintro ⟨⟨Fl, H2, H3, H5, HM, HW⟩, H4, H6⟩
        isplitl [Fl]; · iexact Fl
        isplitl [H2]; · iexact H2
        isplitl [H3]; · iexact H3
        isplitl [H4]; · iexact H4
        isplitl [H5]; · iexact H5
        isplitl [H6]; · iexact H6
        isplitl [HM] <;> [iexact HM; iexact HW]
  have e : stepSt V i Mk s = ⟨s.S, s.C, s.N2, s.CT, hsNext V i Mk s.C s.N2 s.H,
      if (i 2).val = 7 then accNext s.C s.N2 (hsNext V i Mk s.C s.N2 s.H) s.CT s.A else s.A⟩ := by
    simp [stepSt, hp]
  rw [e]
  refine framed c iprop(four (others c V (nxt i)) (i 2) ∗ hold c sc1 s.S) run ?_ ?_
  · refine (sep_mono (land_open c V (i 0) (nxt i) (i 2)) .rfl).trans ?_
    iintro ⟨⟨P, Ce, Ho, Ot⟩, ⟨H1, H2, H3, H4, H5, H6⟩, HM, HW⟩
    isplitl [P Ce Ho H2 H3 H4 H5 H6 HM HW]
    · isplitl [P]; · iexact P
      isplitl [Ce]; · iexact Ce
      isplitl [Ho]; · iexact Ho
      isplitl [H2]; · iexact H2
      isplitl [H3]; · iexact H3
      isplitl [H4]; · iexact H4
      isplitl [H5]; · iexact H5
      isplitl [H6]; · iexact H6
      isplitl [HM] <;> [iexact HM; iexact HW]
    isplitl [Ot] <;> [iexact Ot; iexact H1]
  · iintro ⟨⟨Fl, H2, H3, H4, H5, H6, HM, HW⟩, Ot, H1⟩
    isplitl [Fl Ot]
    · iapply (air_close c V (nxt i) (i 2))
      isplitl [Fl] <;> [iexact Fl; iexact Ot]
    isplitl [H1 H2 H3 H4 H5 H6]
    · isplitl [H1]; · iexact H1
      isplitl [H2]; · iexact H2
      isplitl [H3]; · iexact H3
      isplitl [H4]; · iexact H4
      isplitl [H5] <;> [iexact H5; iexact H6]
    isplitl [HM] <;> [iexact HM; iexact HW]

/-- A point of the last sample's second phase; the last of them writes the results. -/
theorem step2 (hp : (i 1).val = 1) (hb : (i 0).val = 3) (Mk : Vec F S1x1x32768 .i32) (s : St F) (O : Vec F S1x4 .f32) (W : Waits sig Unit) :
    iprop(four (landP c V (i 0)) (i 2) ∗ scr c s ∗ hold c arg4 Mk ∗ hold c arg5 O ∗ owes (c : Thread nD τ) 0 W)
    ⊢ wp frame (wpE (defs₀ (F := F)) 𝒱₀ c none) Set.univ (theBody i arg4 harg4 arg5 harg5)
        (fun _ => iprop(four (landP c V (i 0)) (i 2) ∗ scr c (stepSt V i Mk s) ∗ hold c arg4 Mk
          ∗ hold c arg5 (if (i 2).val = 7 then outOf (stepSt V i Mk s).A else O) ∗ ∃ W', owes (c : Thread nD τ) 0 W')) := by
  have hp0 : ¬ (i 1).val = 0 := by omega
  have h1 := (condFirst_iff i).not.mpr fun h => hp0 h.2.1
  have h2 := (cond2_iff i).not.mpr hp0
  have h5 := (cond5_iff i).mpr hp
  have h7 := (cond7_iff i).not.mpr (by omega)
  have h9 := (cond9_iff i).mpr hb
  have run : iprop(four (fun p => pcP c p.1 p.2 (X V (i 0))) (i 2)
      ∗ hold c sc2 s.C ∗ hold c sc3 s.N2 ∗ hold c sc4 s.CT ∗ hold c sc5 s.H ∗ hold c sc6 s.A ∗ hold c arg4 Mk ∗ hold c arg5 O ∗ owes (c : Thread nD τ) 0 W)
    ⊢ wp frame (wpE (defs₀ (F := F)) 𝒱₀ c none) Set.univ (theBody i arg4 harg4 arg5 harg5)
        (fun _ => iprop(four (fun p => pcP c p.1 p.2 (X V (i 0))) (i 2)
          ∗ hold c sc2 s.C ∗ hold c sc3 s.N2 ∗ hold c sc4 s.CT ∗ hold c sc5 (hsNext V i Mk s.C s.N2 s.H)
          ∗ hold c sc6 (if (i 2).val = 7 then accNext s.C s.N2 (hsNext V i Mk s.C s.N2 s.H) s.CT s.A else s.A)
          ∗ hold c arg4 Mk ∗ hold c arg5 (if (i 2).val = 7 then outOf (accNext s.C s.N2 (hsNext V i Mk s.C s.N2 s.H) s.CT s.A) else O)
          ∗ ∃ W', owes (c : Thread nD τ) 0 W')) := by
    by_cases h : (i 2).val = 7
    · rw [if_pos h, if_pos h]
      exact body1_fin c V i arg4 harg4 arg5 harg5 h1 h2 h5 h7 ((cond8_iff i).mpr h) h9 Mk s.C s.N2 s.H s.CT s.A O W
    · rw [if_neg h, if_neg h]
      refine framed c iprop(hold c sc4 s.CT ∗ hold c sc6 s.A ∗ hold c arg5 O) (body1_late c V i arg4 harg4 arg5 harg5 h1 h2 h5 h7 ((cond8_iff i).not.mpr h) Mk s.C s.N2 s.H W) ?_ ?_
      · iintro ⟨P, H2, H3, H4, H5, H6, HM, HX, HW⟩
        isplitl [P H2 H3 H5 HM HW]
        · isplitl [P]; · iexact P
          isplitl [H2]; · iexact H2
          isplitl [H3]; · iexact H3
          isplitl [H5]; · iexact H5
          isplitl [HM] <;> [iexact HM; iexact HW]
        isplitl [H4]; · iexact H4
        isplitl [H6] <;> [iexact H6; iexact HX]
      · iintro ⟨⟨P, H2, H3, H5, HM, HW⟩, H4, H6, HX⟩
        isplitl [P]; · iexact P
        isplitl [H2]; · iexact H2
        isplitl [H3]; · iexact H3
        isplitl [H4]; · iexact H4
        isplitl [H5]; · iexact H5
        isplitl [H6]; · iexact H6
        isplitl [HM]; · iexact HM
        isplitl [HX] <;> [iexact HX; iexact HW]
  have e : stepSt V i Mk s = ⟨s.S, s.C, s.N2, s.CT, hsNext V i Mk s.C s.N2 s.H,
      if (i 2).val = 7 then accNext s.C s.N2 (hsNext V i Mk s.C s.N2 s.H) s.CT s.A else s.A⟩ := by
    simp [stepSt, hp]
  have e' : (if (i 2).val = 7 then outOf (stepSt V i Mk s).A else O)
      = if (i 2).val = 7 then outOf (accNext s.C s.N2 (hsNext V i Mk s.C s.N2 s.H) s.CT s.A) else O := by
    rw [e]
    by_cases h : (i 2).val = 7
    · simp only [if_pos h]
    · simp only [if_neg h]
  rw [e', e]
  refine framed c iprop((four (fun p => cellP c p.1 p.2) (i 2) ∗ four (fun p => homeP c V (i 0) p.1 p.2) (i 2) ∗ four (others c V (i 0)) (i 2)) ∗ hold c sc1 s.S) run ?_ ?_
  · refine (sep_mono (land_open c V (i 0) (i 0) (i 2)) .rfl).trans ?_
    iintro ⟨⟨P, Ot⟩, ⟨H1, H2, H3, H4, H5, H6⟩, HM, HX, HW⟩
    isplitl [P H2 H3 H4 H5 H6 HM HX HW]
    · isplitl [P]; · iexact P
      isplitl [H2]; · iexact H2
      isplitl [H3]; · iexact H3
      isplitl [H4]; · iexact H4
      isplitl [H5]; · iexact H5
      isplitl [H6]; · iexact H6
      isplitl [HM]; · iexact HM
      isplitl [HX] <;> [iexact HX; iexact HW]
    isplitl [Ot] <;> [iexact Ot; iexact H1]
  · iintro ⟨⟨P, H2, H3, H4, H5, H6, HM, HX, HW⟩, Ot, H1⟩
    isplitl [P Ot]
    · iapply (land_close c V (i 0) (i 0) (i 2))
      isplitl [P] <;> [iexact P; iexact Ot]
    isplitl [H1 H2 H3 H4 H5 H6]
    · isplitl [H1]; · iexact H1
      isplitl [H2]; · iexact H2
      isplitl [H3]; · iexact H3
      isplitl [H4]; · iexact H4
      isplitl [H5] <;> [iexact H5; iexact H6]
    isplitl [HM]; · iexact HM
    isplitl [HX] <;> [iexact HX; iexact HW]

/-! ## The first point -/

theorem todo_open (f : S32x262144.Idx → Elt F .f32) (p : Fin 8 × Fin 4) :
    iprop(pcP c p.1 p.2 f ∗ cellP c p.1 p.2 ∗ homes c V p) ⊢ iprop(todo c V f 0 p ∗ others c V 0 p) := by
  iintro ⟨P, C, G⟩
  ihave G := (homes_pick c V 0 p.1 p.2) $$ G
  icases G with ⟨G, O⟩
  isplitl [P C G]
  · isplitl [P]; · iexact P
    isplitl [C] <;> [iexact C; iexact G]
  iexact O

/-- Two families over one set, put together. -/
theorem both_in {ι : Type} (s : Finset ι) (Φ Ψ : ι → sProp 𝕄) : iprop(bigSep s Φ ∗ bigSep s Ψ) ⊢ bigSep s (fun p => iprop(Φ p ∗ Ψ p)) :=
  Entails.of_eq (BI.bigSep_sep s Φ Ψ).symm
theorem both_out {ι : Type} (s : Finset ι) (Φ Ψ : ι → sProp 𝕄) : bigSep s (fun p => iprop(Φ p ∗ Ψ p)) ⊢ iprop(bigSep s Φ ∗ bigSep s Ψ) :=
  Entails.of_eq (BI.bigSep_sep s Φ Ψ)

theorem first_pool (f : S32x262144.Idx → Elt F .f32) :
    bigSep Finset.univ (fun p : Fin 8 × Fin 4 => iprop(pcP c p.1 p.2 f ∗ cellP c p.1 p.2 ∗ homes c V p))
    ⊢ iprop(poolAt c V f 0 0 ∗ bigSep Finset.univ (others c V 0)) := by
  have h1 : bigSep Finset.univ (fun p : Fin 8 × Fin 4 => iprop(pcP c p.1 p.2 f ∗ cellP c p.1 p.2 ∗ homes c V p))
      ⊢ bigSep Finset.univ (fun p : Fin 8 × Fin 4 => iprop(todo c V f 0 p ∗ others c V 0 p)) :=
    BI.bigSep_mono fun p _ => todo_open c V f p
  have h2 : bigSep Finset.univ (todo c V f 0) = bigSepL order (todo c V f 0) := bigSep_univ_eq_bigSepL order (by decide) (by decide) _
  refine h1.trans ((both_out _ _ _).trans (sep_mono ?_ .rfl))
  rw [h2]
  unfold poolAt pool
  exact BIClass.emp_sep.2

theorem first_end (b : Fin 4) (hb : b = 0) (k : Fin 8) (hk : k = 0) :
    iprop(slP c k (X V b) ∗ four (fun p => cellP c p.1 p.2) k ∗ four (fun p => homeP c V b p.1 p.2) k ∗ flying c V 0 (order.drop 4)
      ∗ bigSep Finset.univ (others c V 0))
    ⊢ iprop(four (landP c V b) k ∗ bigSep (Finset.univ.filter fun p => p.1 ≠ k) (airP c V 0)) := by
  subst hb hk
  have e : flying c V 0 (order.drop 4) = bigSep (Finset.univ.filter fun p : Fin 8 × Fin 4 => p.1 ≠ 0) (fun p => flightP c V 0 p.1 p.2) := by
    rw [flying_eq]
    exact (bigSep_eq_bigSepL_of_eq (order.drop 4) (by decide) (by decide) _).symm
  rw [e, split_slot 0 (others c V 0)]
  iintro ⟨Sl, Ce, Ho, Fl, Ot, Or⟩
  isplitl [Sl Ce Ho Ot]
  · iapply (land_close c V 0 0 0)
    isplitl [Sl]; · iapply (slot_split c 0 (X V 0)) $$ Sl
    isplitl [Ce]; · iexact Ce
    isplitl [Ho] <;> [iexact Ho; iexact Ot]
  iapply (both_in (Finset.univ.filter fun p : Fin 8 × Fin 4 => p.1 ≠ 0) (fun p => flightP c V 0 p.1 p.2) (others c V 0))
  isplitl [Fl] <;> [iexact Fl; iexact Or]

/-- A point's chunk. -/
abbrev chunkOf (i : grid0.Coords) : Fin 8 := i 2

/-- The first point of all. -/
theorem stepFirst (hf : (i 0).val = 0 ∧ (i 1).val = 0 ∧ (i 2).val = 0) (f : S32x262144.Idx → Elt F .f32) (Mk : Vec F S1x1x32768 .i32) (s : St F) (W : Waits sig Unit) :
    iprop(bigSep Finset.univ (fun p : Fin 8 × Fin 4 => iprop(pcP c p.1 p.2 f ∗ cellP c p.1 p.2 ∗ homes c V p)) ∗ scr c s ∗ hold c arg4 Mk ∗ owes (c : Thread nD τ) 0 W)
    ⊢ wp frame (wpE (defs₀ (F := F)) 𝒱₀ c none) Set.univ (theBody i arg4 harg4 arg5 harg5)
        (fun _ => iprop((four (landP c V (i 0)) (i 2) ∗ bigSep (Finset.univ.filter fun p : Fin 8 × Fin 4 => p.1 ≠ chunkOf i) (airP c V 0)) ∗ scr c (stepSt V i Mk s)
          ∗ hold c arg4 Mk ∗ ∃ W', owes (c : Thread nD τ) 0 W')) := by
  have h1 := (condFirst_iff i).mpr hf
  obtain ⟨hf0, hf1, hf2⟩ := hf
  have h2 := (cond2_iff i).mpr hf1
  have h5 := (cond5_iff i).not.mpr (by omega)
  have h0 : i 0 = (0 : Fin 4) := Fin.ext hf0
  have hk : i 2 = (0 : Fin 8) := Fin.ext hf2
  have run := body_first c V i f arg4 harg4 arg5 harg5 h1 h2 h5 (by omega) h0 hk Mk s.S s.CT s.A W
  have e : stepSt V i Mk s = ⟨sumNext V i Mk s.S, s.C, s.N2, cntNext i Mk s.CT, s.H, accZero⟩ := by
    simp [stepSt, hf0, hf1, hf2]
  rw [e]
  refine framed c iprop(bigSep Finset.univ (others c V 0) ∗ hold c sc2 s.C ∗ hold c sc3 s.N2 ∗ hold c sc5 s.H) run ?_ ?_
  · refine (sep_mono (first_pool c V f) .rfl).trans ?_
    iintro ⟨⟨P, Ot⟩, ⟨H1, H2, H3, H4, H5, H6⟩, HM, HW⟩
    isplitl [P H1 H4 H6 HM HW]
    · isplitl [P]; · iexact P
      isplitl [H6]; · iexact H6
      isplitl [H1]; · iexact H1
      isplitl [H4]; · iexact H4
      isplitl [HM] <;> [iexact HM; iexact HW]
    isplitl [Ot]; · iexact Ot
    isplitl [H2]; · iexact H2
    isplitl [H3] <;> [iexact H3; iexact H5]
  · iintro ⟨⟨Sl, Ce, Ho, Fl, H6, H1, H4, HM, HW⟩, Ot, H2, H3, H5⟩
    isplitl [Sl Ce Ho Fl Ot]
    · iapply (first_end c V (i 0) h0 (i 2) hk)
      isplitl [Sl]; · iexact Sl
      isplitl [Ce]; · iexact Ce
      isplitl [Ho]; · iexact Ho
      isplitl [Fl] <;> [iexact Fl; iexact Ot]
    isplitl [H1 H2 H3 H4 H5 H6]
    · isplitl [H1]; · iexact H1
      isplitl [H2]; · iexact H2
      isplitl [H3]; · iexact H3
      isplitl [H4]; · iexact H4
      isplitl [H5] <;> [iexact H5; iexact H6]
    isplitl [HM] <;> [iexact HM; iexact HW]

end Cert.KernelIdeal.Hand

end
-- ==== Proof.IInv.lean ====
/-
  The invariant between grid points: which sample each piece of the embedding buffer holds or awaits, and what the
  scratch holds, as functions of the point's number.
-/
module

public import proofs.«01_k».proof.Proof.IStep
public import Idealize.ShloMosaic.Lib.VecWindow
public import Idealize.ShloMosaic.Lib.Pipeline.BigSepL
public import Idealize.ShloMosaic.Lib.Pipeline.TableIdle
public import Idealize.ShloMosaic.Lib.Ring

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (V : S4x32x262144.Idx → Elt F .f32)

/-! ## The buffer -/

/-- Slot `k` before point `t`: in flight or not, and with which sample. -/
def stOf (t : ℕ) (k : Fin 8) : Bool × Fin 4 :=
  if t = 64 then (false, 3)
  else if t / 8 % 2 = 0 then
    if t % 8 ≤ k.val then (true, ⟨t / 16 % 4, Nat.mod_lt _ (by decide)⟩) else (false, ⟨t / 16 % 4, Nat.mod_lt _ (by decide)⟩)
  else if k.val < t % 8 ∧ t / 16 < 3 then (true, ⟨(t / 16 + 1) % 4, Nat.mod_lt _ (by decide)⟩) else (false, ⟨t / 16 % 4, Nat.mod_lt _ (by decide)⟩)

/-- A point's coordinates from its number. -/
theorem co_eq : ∀ t : Fin grid0.N, ((grid0.coords t) 0).val = t.val / 16 ∧ ((grid0.coords t) 1).val = t.val / 8 % 2 ∧ ((grid0.coords t) 2).val = t.val % 8 := by
  decide +kernel

/-- A point's sample and chunk. -/
abbrev co0 (t : Fin grid0.N) : Fin 4 := (grid0.coords t) 0
abbrev co2 (t : Fin grid0.N) : Fin 8 := chunkOf (grid0.coords t)

theorem st_first : ∀ t : Fin grid0.N, t.val = 0 → stOf (t.val + 1) (co2 t) = (false, co0 t)
    ∧ ∀ k : Fin 8, k ≠ co2 t → stOf (t.val + 1) k = (true, 0) := by decide +kernel
theorem st_phase0 : ∀ t : Fin grid0.N, t.val ≠ 0 → ((grid0.coords t) 1).val = 0 → stOf t.val (co2 t) = (true, co0 t)
    ∧ stOf (t.val + 1) (co2 t) = (false, co0 t) := by decide +kernel
theorem st_phase1 : ∀ t : Fin grid0.N, ((grid0.coords t) 1).val = 1 → stOf t.val (co2 t) = (false, co0 t) := by decide +kernel
theorem st_next : ∀ t : Fin grid0.N, ((grid0.coords t) 1).val = 1 → (co0 t).val + 1 < 4 → stOf (t.val + 1) (co2 t) = (true, nxt (grid0.coords t)) := by decide +kernel
theorem st_stay : ∀ t : Fin grid0.N, ((grid0.coords t) 1).val = 1 → (co0 t).val = 3 → stOf (t.val + 1) (co2 t) = (false, co0 t) := by decide +kernel
theorem st_other : ∀ t : Fin grid0.N, t.val ≠ 0 → ∀ k : Fin 8, k ≠ co2 t → stOf (t.val + 1) k = stOf t.val k := by decide +kernel

/-- The buffer before point `t`. -/
def bufAt (t : ℕ) : sProp 𝕄 :=
  if t = 0 then iprop(∃ f, bigSep Finset.univ (fun p : Fin 8 × Fin 4 => iprop(pcP c p.1 p.2 f ∗ cellP c p.1 p.2 ∗ homes c V p)))
  else bigSep Finset.univ (fun p => stP c V (stOf t p.1) p)

/-- The other slots' pieces before point `t`. -/
abbrev restAt (t : ℕ) (k : Fin 8) : sProp 𝕄 := bigSep (Finset.univ.filter fun p : Fin 8 × Fin 4 => p.1 ≠ k) (fun p => stP c V (stOf t p.1) p)

theorem buf_open (t : ℕ) (ht : t ≠ 0) (k : Fin 8) : bufAt c V t ⊢ iprop(four (fun p => stP c V (stOf t p.1) p) k ∗ restAt c V t k) := by
  unfold bufAt
  rw [if_neg ht, split_slot k]
theorem buf_close (t : ℕ) (ht : t ≠ 0) (k : Fin 8) : iprop(four (fun p => stP c V (stOf t p.1) p) k ∗ restAt c V t k) ⊢ bufAt c V t := by
  unfold bufAt
  rw [if_neg ht, split_slot k]
theorem rest_step (t : Fin grid0.N) (ht : t.val ≠ 0) : restAt c V t.val (co2 t) = restAt c V (t.val + 1) (co2 t) := by
  unfold restAt
  refine BI.bigSep_congr fun p hp => ?_
  rw [st_other t ht p.1 (Finset.mem_filter.mp hp).2]
theorem four_land {t : ℕ} {k : Fin 8} {b : Fin 4} (h : stOf t k = (false, b)) : four (fun p => stP c V (stOf t p.1) p) k = four (landP c V b) k := by
  unfold four; dsimp only; rw [h]; rfl
theorem four_air {t : ℕ} {k : Fin 8} {b : Fin 4} (h : stOf t k = (true, b)) : four (fun p => stP c V (stOf t p.1) p) k = four (airP c V b) k := by
  unfold four; dsimp only; rw [h]; rfl

/-! ## The body at a point -/

theorem framed' {P Q P' Q' Q'' : sProp 𝕄} {e : Prog (TpuEff nD τ sig (Elt F) Λ₀ .tc) PUnit} (R : sProp 𝕄)
    (h : P ⊢ wp frame (wpE (defs₀ (F := F)) 𝒱₀ c none) Set.univ e (fun _ => Q)) (h3 : Q'' ⊢ Q') (h1 : P' ⊢ iprop(P ∗ R)) (h2 : iprop(Q ∗ R) ⊢ Q'') :
    P' ⊢ wp frame (wpE (defs₀ (F := F)) 𝒱₀ c none) Set.univ e (fun _ => Q') := framed c R h h1 (h2.trans h3)

section Point
variable (t : Fin grid0.N)
  (arg4 : Memref sig .tc .vmem S1x1x32768 .i32) (harg4 : arg4.IsWhole) (arg5 : Memref sig .tc .vmem S1x4 .f32) (harg5 : arg5.IsWhole)

theorem point_run (Mk : Vec F S1x1x32768 .i32) (s : St F) (O : Vec F S1x4 .f32) (W : Waits sig Unit) :
    iprop(bufAt c V t.val ∗ scr c s ∗ hold c arg4 Mk ∗ hold c arg5 O ∗ owes (c : Thread nD τ) 0 W)
    ⊢ wp frame (wpE (defs₀ (F := F)) 𝒱₀ c none) Set.univ (theBody (grid0.coords t) arg4 harg4 arg5 harg5)
        (fun _ => iprop(bufAt c V (t.val + 1) ∗ scr c (stepSt V (grid0.coords t) Mk s) ∗ hold c arg4 Mk
          ∗ hold c arg5 (if t.val = 63 then outOf (stepSt V (grid0.coords t) Mk s).A else O) ∗ ∃ W', owes (c : Thread nD τ) 0 W')) := by
  obtain ⟨c0, c1, c2⟩ := co_eq t
  have hN : t.val < 64 := t.isLt
  have hs : t.val + 1 ≠ 0 := by omega
  by_cases h0 : t.val = 0
  · obtain ⟨e1, e2⟩ := st_first t h0
    rw [if_neg (by omega)]
    have eb : bufAt c V t.val = iprop(∃ f, bigSep Finset.univ (fun p : Fin 8 × Fin 4 => iprop(pcP c p.1 p.2 f ∗ cellP c p.1 p.2 ∗ homes c V p))) := if_pos h0
    have er : bigSep (Finset.univ.filter fun p : Fin 8 × Fin 4 => p.1 ≠ co2 t) (airP c V 0) = restAt c V (t.val + 1) (co2 t) :=
      BI.bigSep_congr fun p hp => by rw [e2 p.1 (Finset.mem_filter.mp hp).2]; rfl
    have eq : iprop(four (landP c V (co0 t)) (co2 t) ∗ bigSep (Finset.univ.filter fun p : Fin 8 × Fin 4 => p.1 ≠ co2 t) (airP c V 0)) ⊢ bufAt c V (t.val + 1) := by
      rw [er, ← four_land c V e1]
      exact buf_close c V (t.val + 1) hs (co2 t)
    rw [eb]
    iintro ⟨⟨%f, B⟩, S, HM, HX, HW⟩
    iapply (framed' c (hold c arg5 O) (stepFirst c V (grid0.coords t) arg4 harg4 arg5 harg5 ⟨by omega, by omega, by omega⟩ f Mk s W) .rfl .rfl ?_)
    · iintro ⟨⟨B, S, HM, HW⟩, HX⟩
      isplitl [B]; · iapply eq $$ B
      isplitl [S]; · iexact S
      isplitl [HM]; · iexact HM
      isplitl [HX] <;> [iexact HX; iexact HW]
    · isplitr [HX]
      · isplitl [B]; · iexact B
        isplitl [S]; · iexact S
        isplitl [HM] <;> [iexact HM; iexact HW]
      iexact HX
  · refine (sep_mono (buf_open c V t.val h0 (co2 t)) .rfl).trans ?_
    rw [rest_step c V t h0]
    by_cases hp : ((grid0.coords t) 1).val = 0
    · obtain ⟨e1, e2⟩ := st_phase0 t h0 hp
      rw [if_neg (by omega), four_air c V e1]
      refine framed' c iprop(restAt c V (t.val + 1) (co2 t) ∗ hold c arg5 O) (step0 c V (grid0.coords t) arg4 harg4 arg5 harg5 (by omega) hp Mk s W) (sep_mono (buf_close c V (t.val + 1) hs (co2 t)) .rfl) ?_ ?_
      · iintro ⟨⟨B, R⟩, S, HM, HX, HW⟩
        isplitr [R HX]
        · isplitl [B]; · iexact B
          isplitl [S]; · iexact S
          isplitl [HM] <;> [iexact HM; iexact HW]
        isplitl [R] <;> [iexact R; iexact HX]
      · rw [four_land c V e2]
        iintro ⟨⟨B, S, HM, HW⟩, R, HX⟩
        isplitl [B R]; · isplitl [B] <;> [iexact B; iexact R]
        isplitl [S]; · iexact S
        isplitl [HM]; · iexact HM
        isplitl [HX] <;> [iexact HX; iexact HW]
    · have hp : ((grid0.coords t) 1).val = 1 := by omega
      rw [four_land c V (st_phase1 t hp)]
      by_cases hb : ((grid0.coords t) 0).val + 1 < 4
      · rw [if_neg (by omega)]
        refine framed' c iprop(restAt c V (t.val + 1) (co2 t) ∗ hold c arg5 O) (step1 c V (grid0.coords t) arg4 harg4 arg5 harg5 hp hb Mk s W) (sep_mono (buf_close c V (t.val + 1) hs (co2 t)) .rfl) ?_ ?_
        · iintro ⟨⟨B, R⟩, S, HM, HX, HW⟩
          isplitr [R HX]
          · isplitl [B]; · iexact B
            isplitl [S]; · iexact S
            isplitl [HM] <;> [iexact HM; iexact HW]
          isplitl [R] <;> [iexact R; iexact HX]
        · rw [four_air c V (st_next t hp hb)]
          iintro ⟨⟨B, S, HM, HW⟩, R, HX⟩
          isplitl [B R]; · isplitl [B] <;> [iexact B; iexact R]
          isplitl [S]; · iexact S
          isplitl [HM]; · iexact HM
          isplitl [HX] <;> [iexact HX; iexact HW]
      · have hb : ((grid0.coords t) 0).val = 3 := by omega
        have hi : (t.val = 63) = (((grid0.coords t) 2).val = 7) := propext ⟨fun _ => by omega, fun _ => by omega⟩
        simp only [hi]
        refine framed' c (restAt c V (t.val + 1) (co2 t)) (step2 c V (grid0.coords t) arg4 harg4 arg5 harg5 hp hb Mk s O W) (sep_mono (buf_close c V (t.val + 1) hs (co2 t)) .rfl) ?_ ?_
        · iintro ⟨⟨B, R⟩, H⟩
          isplitr [R]; · isplitl [B] <;> [iexact B; iexact H]
          iexact R
        · rw [four_land c V (st_stay t hp hb)]
          iintro ⟨⟨B, H⟩, R⟩
          isplitl [B R]; · isplitl [B] <;> [iexact B; iexact R]
          iexact H

end Point

/-! ## The scratch -/

/-- Two states agree on what point `t` still reads. -/
structure Agree (t : ℕ) (s s' : St F) : Prop where
  S : t / 8 % 2 = 0 → t % 8 ≠ 0 → s.S = s'.S
  CT : t / 8 % 2 = 1 ∨ t % 8 ≠ 0 → s.CT = s'.CT
  C : t / 8 % 2 = 1 → s.C = s'.C
  N2 : t / 8 % 2 = 1 → s.N2 = s'.N2
  H : t / 8 % 2 = 1 → t % 8 ≠ 0 → s.H = s'.H
  A : t ≠ 0 → s.A = s'.A

theorem agree_zero (s s' : St F) : Agree 0 s s' := by constructor <;> simp

theorem sum_congr (i : grid0.Coords) (Mk : Vec F S1x1x32768 .i32) (S S' : Vec F S32x32 .f32) (h : (i 2).val ≠ 0 → S = S') : sumNext V i Mk S = sumNext V i Mk S' := by
  unfold sumNext
  by_cases h0 : (i 2).val = 0
  · rw [if_pos h0, if_pos h0]
  · rw [h h0]
theorem cnt_congr (i : grid0.Coords) (Mk : Vec F S1x1x32768 .i32) (S S' : Vec F S1x32 .f32) (h : (i 2).val ≠ 0 → S = S') : cntNext i Mk S = cntNext i Mk S' := by
  unfold cntNext
  by_cases h0 : (i 2).val = 0
  · rw [if_pos h0, if_pos h0]
  · rw [h h0]
theorem hs_congr (i : grid0.Coords) (Mk : Vec F S1x1x32768 .i32) (C : Vec F S32x32 .f32) (N2 : Vec F S1x32 .f32) (S S' : Vec F S1x32 .f32) (h : (i 2).val ≠ 0 → S = S') :
    hsNext V i Mk C N2 S = hsNext V i Mk C N2 S' := by
  unfold hsNext
  by_cases h0 : (i 2).val = 0
  · rw [if_pos h0, if_pos h0]
  · rw [h h0]

theorem agree_step (t : Fin grid0.N) (Mk : Vec F S1x1x32768 .i32) (s s' : St F) (h : Agree t.val s s') :
    Agree (t.val + 1) (stepSt V (grid0.coords t) Mk s) (stepSt V (grid0.coords t) Mk s') := by
  obtain ⟨c0, c1, c2⟩ := co_eq t
  have hN : t.val < 64 := t.isLt
  by_cases hp : ((grid0.coords t) 1).val = 0
  · have eS := sum_congr V (grid0.coords t) Mk s.S s'.S (fun h0 => h.S (by omega) (by omega))
    have eC := cnt_congr (grid0.coords t) Mk s.CT s'.CT (fun h0 => h.CT (by omega))
    have hp1 : ¬ ((grid0.coords t) 1).val = 1 := by omega
    constructor
    · intro _ _; simp only [stepSt, if_pos hp]; exact eS
    · intro _; simp only [stepSt, if_pos hp]; exact eC
    · intro h1
      have h7 : ((grid0.coords t) 2).val = 7 := by omega
      simp only [stepSt, if_pos (And.intro hp h7)]; rw [eS, eC]
    · intro h1
      have h7 : ((grid0.coords t) 2).val = 7 := by omega
      simp only [stepSt, if_pos (And.intro hp h7)]; rw [eS, eC]
    · intro h1 h2; exact absurd h2 (by omega)
    · intro _
      by_cases hz : t.val = 0
      · have hf : ((grid0.coords t) 0).val = 0 ∧ ((grid0.coords t) 1).val = 0 ∧ ((grid0.coords t) 2).val = 0 := by omega
        simp only [stepSt, if_pos hf]
      · have hf : ¬ (((grid0.coords t) 0).val = 0 ∧ ((grid0.coords t) 1).val = 0 ∧ ((grid0.coords t) 2).val = 0) := by omega
        have hg : ¬ (((grid0.coords t) 1).val = 1 ∧ ((grid0.coords t) 2).val = 7) := by omega
        simp only [stepSt, if_neg hf, if_neg hg]; exact h.A hz
  · have hq : t.val / 8 % 2 = 1 := by omega
    have eC := h.C hq
    have eN := h.N2 hq
    have eT := h.CT (Or.inl hq)
    have eH : hsNext V (grid0.coords t) Mk s.C s.N2 s.H = hsNext V (grid0.coords t) Mk s'.C s'.N2 s'.H := by
      rw [eC, eN]; exact hs_congr V (grid0.coords t) Mk s'.C s'.N2 s.H s'.H (fun h0 => h.H (by omega) (by omega))
    have eA := h.A (by omega)
    have hf : ¬ (((grid0.coords t) 1).val = 0 ∧ ((grid0.coords t) 2).val = 7) := fun h => hp h.1
    have hg : ¬ (((grid0.coords t) 0).val = 0 ∧ ((grid0.coords t) 1).val = 0 ∧ ((grid0.coords t) 2).val = 0) := fun h => hp h.2.1
    constructor
    · intro _ h2; exact absurd h2 (by omega)
    · intro _; simp only [stepSt, if_neg hp]; exact eT
    · intro _; simp only [stepSt, if_neg hf]; exact eC
    · intro _; simp only [stepSt, if_neg hf]; exact eN
    · intro _ _; simp only [stepSt, if_neg hp]; exact eH
    · intro _; simp only [stepSt, if_neg hg]; rw [eH, eC, eN, eT, eA]

/-- A state to start from, which nothing reads. -/
def st0 : St F := ⟨k0_pay11, k0_pay11, k0_pay12, k0_pay12, k0_pay23, accZero⟩

/-- The state before point `t`, the mask blocks being `Mks`. -/
def stAt (Mks : Fin grid0.N → Vec F S1x1x32768 .i32) : ℕ → St F
  | 0 => st0
  | t + 1 => if h : t < grid0.N then stepSt V (grid0.coords ⟨t, h⟩) (Mks ⟨t, h⟩) (stAt Mks t) else stAt Mks t

theorem stAt_succ (Mks : Fin grid0.N → Vec F S1x1x32768 .i32) (t : Fin grid0.N) :
    stAt V Mks (t.val + 1) = stepSt V (grid0.coords t) (Mks t) (stAt V Mks t.val) := by
  rw [stAt, dif_pos t.isLt]

/-! ## Whole buffers and their pieces -/

theorem buf_pieces (f : S32x262144.Idx → Elt F .f32) :
    ((c : Thread nD τ).loc cc0_scratch0 ↦{fullShare} f : sProp 𝕄) = bigSep Finset.univ (fun p : Fin 8 × Fin 4 => pcP c p.1 p.2 f) := by
  rw [Ring.pointsTo_blocks (Ix := Unit) (Name := ℕ) (U := Pipeline.UD sig nD τ) (Lvl := ℕ) (Val := Elt F) (ℓ := (c : Thread nD τ).loc cc0_scratch0)
    (fun p : Fin 8 × Fin 4 => pSet p.1 p.2) pieces_disjoint pieces_cover (q := fullShare) f]
  refine BI.bigSep_congr fun p _ => ?_
  show _ = ((c : Thread nD τ).loc cc0_scratch0 ↦[(piece p.1 p.2).view.set]{fullShare} f : sProp 𝕄)
  rw [piece_set]

theorem src_pieces : ((c : Thread nD τ).loc main_v0 ↦{fullShare} V : sProp 𝕄) = bigSep Finset.univ (homes c V) := by
  have hh : ∀ p : Fin 8 × Fin 4, homes c V p = ((c : Thread nD τ).loc main_v0 ↦[Finset.univ.biUnion fun b => sSet b p.1 p.2]{fullShare} V : sProp 𝕄) := fun p => by
    rw [Ring.pointsTo_sub_blocks (Ix := Unit) (Name := ℕ) (U := Pipeline.UD sig nD τ) (Lvl := ℕ) (Val := Elt F) (ℓ := (c : Thread nD τ).loc main_v0)
      (fun b : Fin 4 => sSet b p.1 p.2) (fun b b' hb => srcs_disjoint (p.1, b, p.2) (p.1, b', p.2) fun e => hb (by injection e with _ e; injection e)) _ rfl (q := fullShare) V]
    unfold homes
    refine BI.bigSep_congr fun b _ => ?_
    show ((c : Thread nD τ).loc main_v0 ↦[(srcp b p.1 p.2).view.set]{fullShare} V : sProp 𝕄) = _
    rw [src_set]
  rw [Ring.pointsTo_blocks (Ix := Unit) (Name := ℕ) (U := Pipeline.UD sig nD τ) (Lvl := ℕ) (Val := Elt F) (ℓ := (c : Thread nD τ).loc main_v0)
    (fun p : Fin 8 × Fin 4 => Finset.univ.biUnion fun b => sSet b p.1 p.2) ?_ ?_ (q := fullShare) V]
  · exact BI.bigSep_congr fun p _ => (hh p).symm
  · intro p q hpq
    rw [Finset.disjoint_biUnion_left]
    intro b _
    rw [Finset.disjoint_biUnion_right]
    intro b' _
    exact srcs_disjoint (p.1, b, p.2) (q.1, b', q.2) fun e => hpq (by injection e with e1 e2; injection e2 with _ e3; exact Prod.ext e1 e3)
  · refine Finset.eq_univ_of_forall fun x => ?_
    obtain ⟨p, -, hp⟩ := Finset.mem_biUnion.mp (srcs_cover ▸ Finset.mem_univ x : x ∈ Finset.univ.biUnion fun p : Fin 8 × Fin 4 × Fin 4 => sSet p.2.1 p.1 p.2.2)
    exact Finset.mem_biUnion.mpr ⟨(p.1, p.2.2), Finset.mem_univ _, Finset.mem_biUnion.mpr ⟨p.2.1, Finset.mem_univ _, hp⟩⟩

/-- A scratch buffer held whole is the buffer's points-to. -/
theorem hold_whole (b : Ref sig .tc) (f : b.ty.Contents (Elt F)) :
    (hold c (Memref.whole b) f : sProp 𝕄) = (c : Thread nD τ).loc b ↦{fullShare} f :=
  (owns_eq_rep (c : Thread nD τ) (Memref.whole b) fullShare f).symm.trans (owns_whole (c : Thread nD τ) b fullShare f)

/-- The buffer as launched. -/
theorem buf_in (f : S32x262144.Idx → Elt F .f32) :
    iprop(((c : Thread nD τ).loc cc0_scratch0 ↦{fullShare} f) ∗ bigSep Finset.univ (fun p : Fin 8 × Fin 4 => cellP c p.1 p.2) ∗ ((c : Thread nD τ).loc main_v0 ↦{fullShare} V))
    ⊢ bufAt c V 0 := by
  unfold bufAt
  rw [if_pos rfl, buf_pieces, src_pieces]
  iintro H
  iexists f
  iapply (((sep_mono .rfl (both_in Finset.univ _ _)).trans (both_in Finset.univ _ _)) : _ ⊢ bigSep Finset.univ (fun p : Fin 8 × Fin 4 => iprop(pcP c p.1 p.2 f ∗ cellP c p.1 p.2 ∗ homes c V p)))
  iexact H

/-- The buffer after the last point. -/
theorem buf_out : bufAt c V 64
    ⊢ iprop((∃ f, (c : Thread nD τ).loc cc0_scratch0 ↦{fullShare} f) ∗ bigSep Finset.univ (fun p : Fin 8 × Fin 4 => cellP c p.1 p.2) ∗ ((c : Thread nD τ).loc main_v0 ↦{fullShare} V)) := by
  have e : bufAt c V 64 = bigSep Finset.univ (fun p : Fin 8 × Fin 4 => iprop(pcP c p.1 p.2 (X V 3) ∗ cellP c p.1 p.2 ∗ homes c V p)) := rfl
  rw [e, src_pieces]
  refine ((both_out Finset.univ (fun p : Fin 8 × Fin 4 => pcP c p.1 p.2 (X V 3)) _).trans (sep_mono .rfl (both_out Finset.univ _ _))).trans ?_
  rw [← buf_pieces]
  iintro ⟨B, H⟩
  isplitl [B]; · iexists _; iexact B
  iexact H

end Cert.KernelIdeal.Hand

end
-- ==== Proof.ILaunch.lean ====
/-
  The launch: the pipeline's proof data, the body's obligation at every point, the run of the whole program, and what it
  leaves.
-/
module

public import proofs.«01_k».proof.Proof.IInv
public import proofs.«01_k».proof.Proof.Gen.KernelIdeal.Frame
public import Idealize.ShloMosaic.Lib.Pipeline.FrameSuffix
public import Idealize.ShloMosaic.Lib.Pipeline.FrameBody

@[expose] public section

set_option maxRecDepth 16384

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The embeddings as the region finds them. -/
abbrev emb : S4x32x262144.Idx → Elt F .f32 := V m c main_v0
/-- The mask block of a point. -/
abbrev mkAt (t : Fin grid0.N) : Vec F S1x1x32768 .i32 := iblk m c 0 t
/-- The scratch before a point. -/
abbrev stM (t : ℕ) : St F := stAt (emb m c) (mkAt m c) t

/-- The invariant before point `t`. -/
def PhiS (t : ℕ) : sProp 𝕄 :=
  iprop(bufAt c (emb m c) t ∗ (∃ s : St F, ⌜Agree t s (stM m c t)⌝ ∗ scr c s) ∗ ∃ r, prngReg c r)

/-- The proof data: the mask block stays as fetched, the result row is written at the last point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => outOf (stM m c 64).A
  Φ t := PhiS m c t.val
  q _ := fullShare
  owed _ := 0

theorem A_eq (w : Fin cfg0.W) : (dats m 0 c).A w = V m c (Pipeline.arrRef spec0 w) := by dsimp only [dats]
theorem after0_0 (t : Fin cfg0.N) : (dats m 0 c).after 0 t = iblk m c 0 t := by dsimp only [dats]
theorem after0_1 (t : Fin cfg0.N) : (dats m 0 c).after 1 t = outOf (stM m c 64).A := by dsimp only [dats]
theorem before0_0 (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem idle_mid : ∀ t : Fin grid0.N, t.val ≠ 63 → idle0 1 (grid0.coords t) = true := by decide +kernel
theorem idle_end : ∀ t : Fin grid0.N, t.val = 63 → idle0 1 (grid0.coords t) = false := by decide +kernel

abbrev ms0 (t : Fin cfg0.N) : Memref sig .tc .vmem S1x1x32768 .i32 := win0_0.stage (cfg0.slots t 0)
abbrev ms1 (t : Fin cfg0.N) : Memref sig .tc .vmem S1x4 .f32 := win0_1.stage (cfg0.slots t 1)

/-- The result window's buffer as the body hands it back. -/
def post1 (t : Fin cfg0.N) : sProp 𝕄 :=
  match cfg0.idle 1 (cfg0.grid.coords t) with
  | true =>
    match (cfg0.win 1).flush t with
    | false => iprop(∃ d, owns (c : Thread nD τ) (ms1 t) fullShare ((dats m 0 c).before 1 t d))
    | true => owns (c : Thread nD τ) (ms1 t) fullShare ((dats m 0 c).after 1 t)
  | false => owns (c : Thread nD τ) (ms1 t) fullShare ((dats m 0 c).after 1 t)

theorem post1_mid (t : Fin cfg0.N) (h : t.val ≠ 63) : post1 m c t = iprop(∃ d, owns (c : Thread nD τ) (ms1 t) fullShare ((dats m 0 c).before 1 t d)) := by
  have hi : cfg0.idle 1 (cfg0.grid.coords t) = true := idle_mid t h
  have hf : (cfg0.win 1).flush t = false := by
    have hlt : t.val < 64 := t.isLt
    by_contra hne
    have := (flush0_1 t).mp (by simpa using hne)
    omega
  unfold post1
  rw [hi, hf]
theorem post1_end (t : Fin cfg0.N) (h : t.val = 63) : post1 m c t = owns (c : Thread nD τ) (ms1 t) fullShare (outOf (stM m c 64).A) := by
  have hi : cfg0.idle 1 (cfg0.grid.coords t) = false := idle_end t h
  unfold post1
  rw [hi, after0_1]

def bodyPre (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d)))
def bodyPost (t : Fin cfg0.N) : sProp 𝕄 :=
  iprop((dats m 0 c).Φ t.succ ∗ (dats m 0 c).owesAt () t.succ
    ∗ owns (c : Thread nD τ) (ms0 t) fullShare ((dats m 0 c).after 0 t) ∗ post1 m c t)

/-- What the run hands back for the result window. -/
theorem result_back (t : Fin cfg0.N) (s : St F) (h : Agree t.val s (stM m c t.val)) (d) :
    hold c (ms1 t) (if t.val = 63 then outOf (stepSt (emb m c) (grid0.coords t) (iblk m c 0 t) s).A else (dats m 0 c).before 1 t d) ⊢ post1 m c t := by
  by_cases h63 : t.val = 63
  · rw [if_pos h63, post1_end m c t h63]
    have hA := (agree_step (emb m c) t (iblk m c 0 t) s _ h).A (by omega)
    rw [hA, ← stAt_succ (emb m c) (mkAt m c) t, h63, owns_eq_rep]
  · rw [if_neg h63, post1_mid m c t h63]
    iintro H
    iexists d
    rw [owns_eq_rep]
    iexact H

/-- The body's run with every piece of the invariant opened. -/
theorem sound_open (t : Fin cfg0.N) (s : St F) (hs : Agree t.val s (stM m c t.val)) (d1) (W : Waits sig Unit) :
    iprop((bufAt c (emb m c) t.val ∗ scr c s ∗ hold c (ms0 t) (iblk m c 0 t) ∗ hold c (ms1 t) ((dats m 0 c).before 1 t d1)
        ∗ owes (c : Thread nD τ) 0 W) ∗ ∃ r, prngReg c r)
      ⊢ wp frame (wpE (defs₀ (F := F)) 𝒱₀ c none) Set.univ (bodyAt0 t) (fun _ =>
        iprop(PhiS m c (t.val + 1) ∗ (dats m 0 c).owesAt () t.succ ∗ hold c (ms0 t) (iblk m c 0 t) ∗ post1 m c t)) := by
  refine framed c iprop(∃ r, prngReg c r)
    (point_run c (emb m c) t (ms0 t) (hstage0_0 ((cfg0.slots t 0).cast nbuf0_0)) (ms1 t) (hstage0_1 ((cfg0.slots t 1).cast nbuf0_1)) (iblk m c 0 t) s ((dats m 0 c).before 1 t d1) W) .rfl ?_
  unfold PhiS Dat.owesAt Pipeline.owesWithin
  rw [show (dats m 0 c).owed t.succ = 0 from rfl]
  iintro ⟨⟨B, S, H0, H1, ⟨%W', HW⟩⟩, G⟩
  isplitl [B S G]
  · isplitl [B]; · iexact B
    isplitl [S]
    · iexists _
      isplitr; swap; · iexact S
      ipureintro
      unfold stM
      rw [stAt_succ]
      exact agree_step (emb m c) t (iblk m c 0 t) s _ hs
    iexact G
  isplitl [HW]
  · iexists W'; isplitr; · ipureintro; exact fun _ _ => Or.inl trivial
    iexact HW
  isplitl [H0]; · iexact H0
  iapply (result_back m c t s hs d1) $$ H1

theorem owes_in (t : Fin cfg0.N) : (dats m 0 c).owesAt () t.castSucc ⊢ (iprop(∃ W, owes (c : Thread nD τ) 0 W) : sProp 𝕄) := by
  unfold Dat.owesAt Pipeline.owesWithin
  rw [show (dats m 0 c).owed t.castSucc = 0 from rfl]
  iintro ⟨%W, -, HW⟩
  iexists W; iexact HW

theorem sound_body (t : Fin cfg0.N) :
    bodyPre m c t ⊢ wp frame (wpE (defs₀ (F := F)) 𝒱₀ c none) Set.univ (bodyAt0 t) (fun _ => bodyPost m c t) := by
  unfold bodyPre bodyPost
  rw [show (dats m 0 c).Φ t.succ = PhiS m c (t.val + 1) from rfl, show (dats m 0 c).Φ t.castSucc = PhiS m c t.val from rfl, after0_0]
  refine (sep_mono .rfl (sep_mono (owes_in m c t) .rfl)).trans ?_
  rw [show PhiS m c t.val = iprop(bufAt c (emb m c) t.val ∗ (∃ s : St F, ⌜Agree t.val s (stM m c t.val)⌝ ∗ scr c s) ∗ ∃ r, prngReg c r) from rfl]
  simp only [before0_0, owns_eq_rep]
  iintro ⟨⟨B, ⟨%s, %hs, S⟩, G⟩, ⟨%W, HW⟩, ⟨%d0, H0⟩, ⟨%d1, H1⟩⟩
  iapply (sound_open m c t s hs d1 W)
  isplitr [G]
  · isplitl [B]; · iexact B
    isplitl [S]; · iexact S
    isplitl [H0]; · iexact H0
    isplitl [H1] <;> [iexact H1; iexact HW]
  iexact G

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) 𝒱₀ () Set.univ := fun t => by
  rw [bigSep_W0, bigSep_W0, defs₀_row]
  exact triple_restated (sound_body m c t) rfl .rfl fun _ => .rfl

/-! ## The launch -/

/-- The kernel's own semaphores, by piece. -/
def osem (p : Fin 8 × Fin 4) : SemLoc sig := SemLoc.dma (csm p.1 p.2).sem
theorem ownSemFacts : Pipeline.OwnSemFacts spec0 osem := by decide +kernel
def hands : Finset (Ref sig .tc) := {main_v0}
theorem hands_sub : hands ⊆ Pipeline.restRefs sig spec0 := by decide

/-- A whole buffer, held through its reference. -/
theorem whole_in (b : Ref sig .tc) (f) : ((c : Thread nD τ).loc b ↦{fullShare} f : sProp 𝕄) ⊢ hold c (Memref.whole b) f := by
  rw [hold_whole]
theorem whole_out (b : Ref sig .tc) (f) : (hold c (Memref.whole b) f : sProp 𝕄) ⊢ ((c : Thread nD τ).loc b ↦{fullShare} f) := by
  rw [hold_whole]

theorem PhiD_open : (Pipeline.ΦD osem spec0 hands (V m) c : sProp 𝕄)
    = iprop(Pipeline.scopedRest spec0 c ∗ (∃ r, prngReg c r) ∗ bigSep Finset.univ (fun p : Fin 8 × Fin 4 => cellP c p.1 p.2)
      ∗ ((c : Thread nD τ).loc main_v0 ↦{fullShare} emb m c)) := by
  rw [Pipeline.ΦD_eq]
  unfold hands
  rw [BI.bigSep_singleton]
  unfold Pipeline.ownSems0 osem
  with_reducible rfl

theorem launch_in : Pipeline.ΦD osem spec0 hands (V m) c ⊢ (dats m 0 c).Φ 0 := by
  rw [PhiD_open, scopedRest0_eq, show (dats m 0 c).Φ 0 = PhiS m c 0 from rfl]
  unfold PhiS
  iintro ⟨⟨⟨%f, B⟩, ⟨%s1, H1⟩, ⟨%s2, H2⟩, ⟨%s3, H3⟩, ⟨%s4, H4⟩, ⟨%s5, H5⟩, %s6, H6⟩, G, Ce, Vv⟩
  isplitl [B Ce Vv]
  · iapply (buf_in c (emb m c) f)
    isplitl [B]; · iexact B
    isplitl [Ce] <;> [iexact Ce; iexact Vv]
  isplitr [G]
  · iexists (⟨s1, s2, s3, s4, s5, s6⟩ : St F)
    isplitr
    · ipureintro; exact agree_zero _ _
    isplitl [H1]; · iapply (whole_in c cc0_scratch1 s1) $$ H1
    isplitl [H2]; · iapply (whole_in c cc0_scratch2 s2) $$ H2
    isplitl [H3]; · iapply (whole_in c cc0_scratch3 s3) $$ H3
    isplitl [H4]; · iapply (whole_in c cc0_scratch4 s4) $$ H4
    isplitl [H5] <;> [iapply (whole_in c cc0_scratch5 s5) $$ H5; iapply (whole_in c cc0_scratch6 s6) $$ H6]
  iexact G

theorem launch_out : (dats m 0 c).Φ (Fin.last cfg0.N) ⊢ Pipeline.ΦD osem spec0 hands (V m) c := by
  rw [PhiD_open, scopedRest0_eq, show (dats m 0 c).Φ (Fin.last cfg0.N) = PhiS m c 64 from rfl]
  unfold PhiS
  refine (sep_mono (buf_out c (emb m c)) .rfl).trans ?_
  iintro ⟨⟨B, Ce, Vv⟩, ⟨%s, -, ⟨H1, H2, H3, H4, H5, H6⟩⟩, G⟩
  isplitl [B H1 H2 H3 H4 H5 H6]
  · isplitl [B]; · iexact B
    isplitl [H1]; · iexists _; iapply (whole_out c cc0_scratch1 _) $$ H1
    isplitl [H2]; · iexists _; iapply (whole_out c cc0_scratch2 _) $$ H2
    isplitl [H3]; · iexists _; iapply (whole_out c cc0_scratch3 _) $$ H3
    isplitl [H4]; · iexists _; iapply (whole_out c cc0_scratch4 _) $$ H4
    isplitl [H5]; · iexists _; iapply (whole_out c cc0_scratch5 _) $$ H5
    iexists _; iapply (whole_out c cc0_scratch6 _) $$ H6
  isplitl [G]; · iexact G
  isplitl [Ce] <;> [iexact Ce; iexact Vv]

/-- The host lines after the region touch neither the pipeline's arrays' rivals nor the embeddings. -/
theorem tail_sub : ∀ ops ∈ ([hostOps1] : List (List (HloOp τ sig (Elt F)))), ∀ op ∈ ops, op.bufs ⊆ Pipeline.tailRefsBut sig Pipeline.Prefetch.none spec0 hands := by
  intro ops hops op hop
  simp only [List.mem_cons, List.mem_nil_iff, or_false] at hops
  subst hops
  refine Pipeline.sub_tailRefsBut _ _ _ op ((List.forall_iff_forall_mem.mp hostOps1_sub) op hop) (fun k => k.elim0) ?_
  intro b hb
  obtain rfl := Finset.mem_singleton.mp hb
  simp only [hostOps1, List.mem_cons, List.mem_nil_iff, or_false] at hop
  rcases hop with rfl | rfl | rfl | rfl | rfl | rfl | rfl | rfl
  all_goals
    simp only [StableHlo.unary, StableHlo.reshape, Finset.mem_insert, Finset.mem_singleton, not_or]
    exact ⟨StableHlo.devRef_ne_of_ne (by decide), StableHlo.devRef_ne_of_ne (by decide)⟩

set_option maxHeartbeats 800000 in
set_option backward.isDefEq.respectTransparency.types false in
theorem main_around : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ 𝒱₀ ownSemFacts hands hands_sub m ρ main
    (hbody := fun c => (body_obligation m c).loose) (hshare := fun c w => (dats m 0 c).share_full (fun _ => rfl) w)
    (howed := fun _ _ => rfl) (V₀ := V0 m) (opss := [hostOps1]) (hsub := tail_sub) (hfresh := sfx_fresh) (hkeep := sfx_keeps)
    (hmain := main_around m) (hA := A_eq m) (hin := launch_in m) (hout := launch_out m)

theorem end_main_arg0 : Pipeline.afterTail₀ cfgs (dats (F := F) m) 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
theorem end_main_arg1 : Pipeline.afterTail₀ cfgs (dats (F := F) m) 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- The program runs, leaves its arguments as they were, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c =>
      ⟨((h.1 c).2 main_arg0 (Pipeline.mem_restRefs_of main_arg0 (by decide) (by decide))).trans (end_main_arg0 m c),
        ((h.1 c).2 main_arg1 (Pipeline.mem_restRefs_of main_arg1 (by decide) (by decide))).trans (end_main_arg1 m c)⟩, h.2⟩) (run_main m ρ)

end Cert.KernelIdeal.Hand

end
-- ==== Proof.Spec.lean ====
/-
  What both programs compute of one sample, over the extended reals: `x e n` the pixels, `k n` the labels.
-/
module

public import Idealize.ShloMosaic.PureOps.Ideal

@[expose] public section

noncomputable section

namespace Cert.Spec

open Idealize.ShloMosaic

/-- The number under the roots. -/
abbrev eps : EReal := Ideal.ofBits .f32 0x2B8CBCCC#32
/-- The pixels' margin. -/
abbrev half : EReal := Ideal.ofBits .f32 0x3F000000#32
/-- The means' margin. -/
abbrev three : EReal := Ideal.ofBits .f32 0x40400000#32

section Pixels

variable {N : ℕ} (x : Fin 32 → Fin N → EReal) (k : Fin N → BitVec 32)

/-- Class `c`'s part of a quantity of the pixels. -/
def part (f : Fin N → EReal) (c : Fin 32) : EReal := ∑ n, if k n = BitVec.ofNat 32 c.val then f n else 0

/-- How many pixels carry class `c`. -/
def cnt (c : Fin 32) : EReal := part k (fun _ => 1) c

/-- The mean of class `c`, channel `e`. -/
def cen (c e : Fin 32) : EReal := Ideal.div (part k (x e) c) (max (cnt k c) 1)

/-- By how much pixel `n` is too far from the mean of class `c`, squared. -/
def hin (c : Fin 32) (n : Fin N) : EReal :=
  max (Ideal.sqrt (∑ e, (x e n - cen x k c e) * (x e n - cen x k c e) + eps) - half) 0
    * max (Ideal.sqrt (∑ e, (x e n - cen x k c e) * (x e n - cen x k c e) + eps) - half) 0

/-- Class `c`'s part of it. -/
def hs (c : Fin 32) : EReal := part k (hin x k c) c

end Pixels

section Classes

variable (T : Fin 32 → EReal) (Ce : Fin 32 → Fin 32 → EReal) (H : Fin 32 → EReal)

/-- Class `c` occurs and is not the background. -/
def ok (c : Fin 32) : Prop := 0 < T c ∧ 0 < c.val
instance (c : Fin 32) : Decidable (ok T c) := Classical.dec _

/-- How many do. -/
def nI : EReal := ∑ c, if ok T c then 1 else 0

/-- Whether one does. -/
def has : EReal := if 0 < nI T then 1 else 0

/-- A pair of such classes, in order. -/
def pr (i j : Fin 32) : Prop := (ok T i ∧ ok T j) ∧ i.val < j.val
instance (i j : Fin 32) : Decidable (pr T i j) := Classical.dec _

/-- The variance term. -/
def lv : EReal := Ideal.div (∑ c, if ok T c then Ideal.div (H c) (max (T c) 1) else 0) (max (nI T) 1) * has T

/-- By how much two means are too close. -/
def ph (i j : Fin 32) : EReal := max (three - Ideal.sqrt (∑ e, (Ce i e - Ce j e) * (Ce i e - Ce j e) + eps)) 0

/-- The distance term. -/
def ld : EReal := Ideal.div (∑ i, ∑ j, if pr T i j then ph Ce i j * ph Ce i j else 0) (max (∑ i, ∑ j, if pr T i j then 1 else 0) 1) * has T

/-- The term of the norms. -/
def lr : EReal := Ideal.div (∑ c, if ok T c then Ideal.sqrt (∑ e, Ce c e * Ce c e + eps) else 0) (max (nI T) 1) * has T

end Classes

/-- Four numbers added in order. -/
def sum4 (f : Fin 4 → EReal) : EReal := 0 + f 0 + f 1 + f 2 + f 3

/-- Their quotient by the number of samples that count. -/
def mean4 (h f : Fin 4 → EReal) : EReal := Ideal.div (sum4 f) (max (sum4 h) 1)

end Cert.Spec

end
-- ==== Proof.EMath.lean ====
/-
  The sums of Spec.lean taken a stretch of pixels at a time, and the two expanded squares, for pixels that are numbers.
-/
module

public import proofs.«01_k».proof.Proof.Spec
public import Idealize.ShloMosaic.Lib.Pipeline.ValueKit
public import Idealize.ShloMosaic.Lib.IdealHost
public import Idealize.ShloMosaic.Lib.Pointwise

@[expose] public section

noncomputable section

namespace Cert.Spec

open Idealize.ShloMosaic

/-- The factor of the mixed term. -/
abbrev two : EReal := Ideal.ofBits .f32 0x40000000#32

theorem two_eq : two = ((2 : ℝ) : EReal) := by
  simp [two, Ideal.ofBits, Ideal.ieee, -EReal.coe_mul]
  norm_num

/-- A number, neither infinity. -/
def Real' (a : EReal) : Prop := ∃ r : ℝ, a = r

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, ih, EReal.coe_add]

theorem real_sum {ι : Type} (s : Finset ι) (f : ι → EReal) (h : ∀ i, Real' (f i)) : Real' (∑ i ∈ s, f i) := by
  choose g hg using h
  exact ⟨∑ i ∈ s, g i, by rw [← coe_sum]; exact Finset.sum_congr rfl fun i _ => hg i⟩

theorem real_of_abs {a : EReal} (h : max a (-a) < ⊤) : Real' a := by
  induction a using EReal.rec with
  | bot => simp at h
  | coe r => exact ⟨r, rfl⟩
  | top => simp at h

theorem sq_expand {n : ℕ} (u v : Fin n → EReal) (hu : ∀ e, Real' (u e)) (hv : ∀ e, Real' (v e)) :
    max (∑ e, u e * (u e - two * v e) + ∑ e, v e * v e) 0 = ∑ e, (u e - v e) * (u e - v e) := by
  choose a ha using hu
  choose b hb using hv
  simp only [ha, hb, two_eq, ← EReal.coe_mul, ← EReal.coe_sub, coe_sum, ← EReal.coe_add]
  have e : (∑ i, a i * (a i - 2 * b i) + ∑ i, b i * b i : ℝ) = ∑ i, (a i - b i) * (a i - b i) := by
    rw [← Finset.sum_add_distrib]
    exact Finset.sum_congr rfl fun i _ => by ring
  rw [e]
  exact max_eq_left (EReal.coe_nonneg.mpr (Finset.sum_nonneg fun i _ => mul_self_nonneg _))

theorem gram_expand {n : ℕ} (u v : Fin n → EReal) (hu : ∀ e, Real' (u e)) (hv : ∀ e, Real' (v e)) :
    max (∑ e, u e * u e + ∑ e, v e * v e - two * ∑ e, u e * v e) 0 = ∑ e, (u e - v e) * (u e - v e) := by
  choose a ha using hu
  choose b hb using hv
  simp only [ha, hb, two_eq, ← EReal.coe_mul, ← EReal.coe_sub, coe_sum, ← EReal.coe_add]
  have e : (∑ i, a i * a i + ∑ i, b i * b i - 2 * ∑ i, a i * b i : ℝ) = ∑ i, (a i - b i) * (a i - b i) := by
    rw [Finset.mul_sum, ← Finset.sum_add_distrib, ← Finset.sum_sub_distrib]
    exact Finset.sum_congr rfl fun i _ => by ring
  rw [e]
  exact max_eq_left (EReal.coe_nonneg.mpr (Finset.sum_nonneg fun i _ => mul_self_nonneg _))

section Pixels

variable {N : ℕ} (x : Fin 32 → Fin N → EReal) (k : Fin N → BitVec 32)

theorem part_real (f : Fin N → EReal) (h : ∀ n, Real' (f n)) (c : Fin 32) : Real' (part k f c) :=
  real_sum _ _ fun n => by
    by_cases hk : k n = BitVec.ofNat 32 c.val
    · rw [if_pos hk]; exact h n
    · rw [if_neg hk]; exact ⟨0, rfl⟩

theorem cen_real (h : ∀ e n, Real' (x e n)) (c e : Fin 32) : Real' (cen x k c e) := by
  obtain ⟨a, ha⟩ := part_real k (x e) (h e) c
  obtain ⟨b, hb⟩ := part_real k (fun _ => 1) (fun _ => ⟨1, rfl⟩) c
  have e : max (cnt k c) 1 = ((max b 1 : ℝ) : EReal) := by
    unfold cnt; rw [hb]; exact (EReal.coe_strictMono.monotone.map_max (a := b) (b := 1)).symm
  unfold cen
  rw [e, ha, Ideal.div_coe (by have := le_max_right b 1; linarith)]
  exact ⟨a * (1 / max b 1), (EReal.coe_mul _ _).symm⟩

/-- The kernel's deviation, the mixed term expanded, is the one of the specification. -/
theorem hin_expand (h : ∀ e n, Real' (x e n)) (c : Fin 32) (n : Fin N) :
    max (Ideal.sqrt (max (∑ e, x e n * (x e n - two * cen x k c e) + ∑ e, cen x k c e * cen x k c e) 0 + eps) - half) 0
      * max (Ideal.sqrt (max (∑ e, x e n * (x e n - two * cen x k c e) + ∑ e, cen x k c e * cen x k c e) 0 + eps) - half) 0
    = hin x k c n := by
  rw [sq_expand (fun e => x e n) (fun e => cen x k c e) (fun e => h e n) (fun e => cen_real x k h c e)]
  rfl

end Pixels

/-! ## The arguments' pixels and labels -/

/-- Pixel `n` of sample `b`, channel `e`, of the embeddings. -/
def pix (a : (⟨4, ![4, 32, 512, 512]⟩ : Shape).Idx → EReal) (b : Fin 4) (e : Fin 32) (n : Fin 262144) : EReal :=
  a (ix4 b e ⟨n.val / 512, by have := n.isLt; omega⟩ ⟨n.val % 512, by omega⟩)
/-- Its label. -/
def lab (a : (⟨3, ![4, 512, 512]⟩ : Shape).Idx → BitVec 32) (b : Fin 4) (n : Fin 262144) : BitVec 32 :=
  a (ix3 b ⟨n.val / 512, by have := n.isLt; omega⟩ ⟨n.val % 512, by omega⟩)

/-- The four terms of a sample: variance, distance, norms, and whether it counts. -/
def terms (X : Fin 4 → Fin 32 → Fin 262144 → EReal) (K : Fin 4 → Fin 262144 → BitVec 32) (b : Fin 4) : Fin 4 → EReal :=
  ![lv (cnt (K b)) (hs (X b) (K b)), ld (cnt (K b)) (cen (X b) (K b)), lr (cnt (K b)) (cen (X b) (K b)), has (cnt (K b))]

/-- The mean of term `j` over the samples that count. -/
def res (X : Fin 4 → Fin 32 → Fin 262144 → EReal) (K : Fin 4 → Fin 262144 → BitVec 32) (j : Fin 4) : EReal :=
  mean4 (fun b => terms X K b 3) (fun b => terms X K b j)
/-- The weighted total. -/
def tot (X : Fin 4 → Fin 32 → Fin 262144 → EReal) (K : Fin 4 → Fin 262144 → BitVec 32) : EReal :=
  res X K 0 + res X K 1 + Ideal.ofBits FTy.f32 0x3A83126F#32 * res X K 2

/-! ## A sample's pixels, eight stretches of 32768 -/

/-- Pixel `l` of stretch `j`. -/
def px (j : Fin 8) (l : Fin 32768) : Fin 262144 := ⟨j.val * 32768 + l.val, by have := j.isLt; have := l.isLt; omega⟩

variable (k : Fin 262144 → BitVec 32)

/-- The part of a quantity in class `c` within stretch `j`. -/
def chunk (f : Fin 262144 → EReal) (c : Fin 32) (j : Fin 8) : EReal :=
  ∑ l : Fin 32768, if k (px j l) = BitVec.ofNat 32 c.val then f (px j l) else 0

/-- The stretches up to `n`. -/
def upto (g : Fin 8 → EReal) (n : ℕ) : EReal := ∑ j : Fin 8, if j.val ≤ n then g j else 0

theorem upto_zero (g : Fin 8 → EReal) : upto g 0 = 0 + g 0 := by
  simp [upto, Fin.sum_univ_succ]

theorem upto_succ (g : Fin 8 → EReal) (j : Fin 8) (n : ℕ) (h : j.val = n + 1) : upto g (n + 1) = upto g n + g j := by
  have hj : n + 1 < 8 := h ▸ j.isLt
  obtain rfl : j = ⟨n + 1, hj⟩ := Fin.ext h
  unfold upto
  have e : ∀ i : Fin 8, (if i.val ≤ n + 1 then g i else 0) = (if i.val ≤ n then g i else 0) + if i = ⟨n + 1, hj⟩ then g i else 0 := fun i => by
    by_cases h1 : i.val ≤ n
    · rw [if_pos h1, if_pos (by omega), if_neg (fun h => by have := congrArg Fin.val h; simp at this; omega), add_zero]
    · rw [if_neg h1, zero_add]
      exact if_congr ⟨fun h => Fin.ext (by simp; omega), fun h => by rw [h]⟩ rfl rfl
  rw [Finset.sum_congr rfl fun i _ => e i, Finset.sum_add_distrib, Finset.sum_ite_eq' Finset.univ _ g]
  simp

theorem upto_last (f : Fin 262144 → EReal) (c : Fin 32) : upto (chunk k f c) 7 = part k f c := by
  have e : upto (chunk k f c) 7 = ∑ j, chunk k f c j := Finset.sum_congr rfl fun j _ => if_pos (by have := j.isLt; omega)
  rw [e]
  exact Fin.sum_mul_add_fin 8 32768 (fun n : Fin 262144 => if k n = BitVec.ofNat 32 c.val then f n else 0) (by decide)

end Cert.Spec

end
-- ==== Proof.IPay.lean ====
/-
  The kernel's payloads read number by number over the extended reals.
-/
module

public import proofs.«01_k».proof.Proof.IStep
public import proofs.«01_k».proof.Proof.EMath
public import Idealize.ShloMosaic.Lib.Pointwise
public import Idealize.ShloMosaic.Lib.WordCmp

@[expose] public section

set_option maxRecDepth 16384

noncomputable section

namespace Cert.KernelIdeal.Hand

open Idealize.ShloMosaic Idealize.ShloMosaic.TcCoe Idealize.SL.Sem
open Cert.KernelIdeal Cert.KernelIdeal.Gen

/-! ## Truth values as numbers -/

theorem num_ofBool (p : Prop) [Decidable p] :
    (FloatOps.sitofp .f32 (BitVec.setWidth 32 (BitVec.ofBool (decide p))) : Ideal .f32) = (if p then 1 else 0 : EReal) := by
  by_cases h : p
  · rw [decide_eq_true h, if_pos h]; show ((((BitVec.setWidth 32 1#1).toInt : ℤ) : ℝ) : EReal) = 1; simp
  · rw [decide_eq_false h, if_neg h]; show ((((BitVec.setWidth 32 0#1).toInt : ℤ) : ℝ) : EReal) = 0; simp

theorem both_ofBool (p q : Prop) [Decidable p] [Decidable q] [Decidable (p ∧ q)] :
    IntOp.andi (BitVec.ofBool (decide p)) (BitVec.ofBool (decide q)) = BitVec.ofBool (decide (p ∧ q)) := by
  by_cases h : p <;> by_cases h' : q <;> simp [h, h', IntOp.andi]

theorem before_word : ∀ i j : Fin 32, IntOp.cmpi .slt (BitVec.ofNat 32 i.val) (BitVec.ofNat 32 j.val) = BitVec.ofBool (decide (i.val < j.val)) := by decide +kernel
theorem positive_word : ∀ i : Fin 32, IntOp.cmpi .sgt (BitVec.ofNat 32 i.val) 0#32 = BitVec.ofBool (decide (0 < i.val)) := by decide +kernel
theorem same_word : ∀ i j : Fin 32, IntOp.cmpi .eq (BitVec.ofNat 32 i.val) (BitVec.ofNat 32 j.val) = BitVec.ofBool (decide (i = j)) := by decide +kernel
theorem lane_word : ∀ i j : Fin 4, IntOp.cmpi .eq (BitVec.ofNat 32 i.val) (BitVec.ofNat 32 j.val) = BitVec.ofBool (decide (i = j)) := by decide +kernel
theorem word_inj : ∀ i j : Fin 32, BitVec.ofNat 32 i.val = BitVec.ofNat 32 j.val ↔ j = i := by decide +kernel

/-- A number times a truth value. -/
theorem mul_num (p : Prop) [Decidable p] (a : EReal) : a * (if p then 1 else 0) = if p then a else 0 := by
  by_cases h : p <;> simp [h]
theorem num_mul (p : Prop) [Decidable p] (a : EReal) : (if p then 1 else 0) * a = if p then a else 0 := by
  by_cases h : p <;> simp [h]
theorem num_num (p q : Prop) [Decidable p] [Decidable q] [Decidable (p ∧ q)] :
    ((if p then 1 else 0) * (if q then 1 else 0) : EReal) = if p ∧ q then 1 else 0 := by
  by_cases h : p <;> by_cases h' : q <;> simp [h, h']

/-! ## The chunk's payloads -/

variable (Mk : Vec Ideal S1x1x32768 .i32) (Xs : Vec Ideal S32x32768 .f32) (S C : Vec Ideal S32x32 .f32) (CT N2 H : Vec Ideal S1x32 .f32)

theorem onehot_at (c : Fin 32) (l : Fin 32768) :
    k0_pay1 (F := Ideal) Mk (ix2 c l) = (if Mk (ix3 0 0 l) = BitVec.ofNat 32 c.val then 1 else 0 : EReal) := by
  pointwise [k0_pay1]
  rw [WordCmp.cmpi_eq_eq, num_ofBool]

theorem sums_at (e c : Fin 32) :
    k0_pay2 (F := Ideal) Mk Xs S (ix2 e c) = (S (ix2 e c) + ∑ l, if Mk (ix3 0 0 l) = BitVec.ofNat 32 c.val then Xs (ix2 e l) else 0 : EReal) := by
  pointwise [k0_pay2]
  simp only [onehot_at, mul_num]

theorem counts_at (c : Fin 32) :
    k0_pay3 (F := Ideal) Mk CT (ix2 0 c) = (CT (ix2 0 c) + ∑ l, if Mk (ix3 0 0 l) = BitVec.ofNat 32 c.val then 1 else 0 : EReal) := by
  pointwise [k0_pay3]
  simp only [onehot_at]

theorem means_at (e c : Fin 32) : k0_pay5 (F := Ideal) CT S (ix2 e c) = (Ideal.div (S (ix2 e c)) (max (CT (ix2 0 c)) 1) : EReal) := by
  pointwise [k0_pay5, k0_pay4]

theorem norms_at (c : Fin 32) : k0_pay6 (F := Ideal) CT S (ix2 0 c)
    = (∑ e, Ideal.div (S (ix2 e c)) (max (CT (ix2 0 c)) 1) * Ideal.div (S (ix2 e c)) (max (CT (ix2 0 c)) 1) : EReal) := by
  pointwise [k0_pay6, k0_pay4]

/-- The row of a one-hot column picks its class. -/
theorem pick (k : BitVec 32) (c : Fin 32) (h : k = BitVec.ofNat 32 c.val) (f : Fin 32 → EReal) :
    ∑ c', f c' * (if k = BitVec.ofNat 32 c'.val then 1 else 0) = f c := by
  subst h
  simp only [mul_num, word_inj]
  rw [Finset.sum_ite_eq' Finset.univ c f, if_pos (Finset.mem_univ _)]

/-- The hinge of a pixel of class `c`, the mixed term expanded. -/
def hinK (u v : Fin 32 → EReal) (n2 : EReal) : EReal :=
  max (Ideal.sqrt (max (∑ e, u e * (u e - Spec.two * v e) + n2) 0 + Spec.eps) - Spec.half) 0
    * max (Ideal.sqrt (max (∑ e, u e * (u e - Spec.two * v e) + n2) 0 + Spec.eps) - Spec.half) 0

theorem hinges_at (c : Fin 32) : k0_pay24 (F := Ideal) (k0_pay1 (F := Ideal) Mk) Xs C N2 H (ix2 0 c)
    = (H (ix2 0 c) + ∑ l, if Mk (ix3 0 0 l) = BitVec.ofNat 32 c.val then hinK (fun e => Xs (ix2 e l)) (fun e => C (ix2 e c)) (N2 (ix2 0 c)) else 0 : EReal) := by
  pointwise [k0_pay24]
  refine congrArg (fun z : EReal => (H (ix2 0 c) : EReal) + z) (Finset.sum_congr rfl fun l _ => ?_)
  simp only [onehot_at]
  by_cases h : Mk (ix3 0 0 l) = BitVec.ofNat 32 c.val
  · simp only [pick _ c h]
    rw [if_pos h, if_pos h, mul_one]
    rfl
  · rw [if_neg h, if_neg h, mul_zero]

/-! ## The sample's payloads -/

/-- The counts and the rest as functions of the class. -/
abbrev row (v : Vec Ideal S1x32 .f32) : Fin 32 → EReal := fun c => v (ix2 0 c)

theorem valid_at (c : Fin 32) : k0_pay13 (F := Ideal) CT (ix2 0 c) = (if Spec.ok (row CT) c then 1 else 0 : EReal) := by
  pointwise [k0_pay13]
  rw [positive_word, both_ofBool, num_ofBool]
  exact if_congr Iff.rfl rfl rfl

theorem ninst_at : k0_pay14 (F := Ideal) CT = Spec.nI (row CT) := by
  pointwise [k0_pay14]
  simp only [valid_at]
  rw [Fin.sum_univ_one]
  rfl

theorem has_at (a : EReal) : k0_pay21 (F := Ideal) a = (if 0 < a then 1 else 0 : EReal) := by
  pointwise [k0_pay21]
  exact num_ofBool _

theorem var_at : k0_pay15 (F := Ideal) CT H
    = Ideal.div (∑ c, if Spec.ok (row CT) c then Ideal.div (row H c) (max (row CT c) 1) else 0) (max (Spec.nI (row CT)) 1) := by
  pointwise [k0_pay15]
  simp only [valid_at, num_mul]
  rw [Fin.sum_univ_one, ninst_at]

theorem reg_at : k0_pay20 (F := Ideal) (k0_pay13 CT) (k0_pay14 CT) N2
    = Ideal.div (∑ c, if Spec.ok (row CT) c then Ideal.sqrt (row N2 c + Spec.eps) else 0) (max (Spec.nI (row CT)) 1) := by
  pointwise [k0_pay20]
  simp only [valid_at, num_mul]
  rw [Fin.sum_univ_one, ninst_at]

theorem eye_at (i j : Fin 32) : k0_pay16 (F := Ideal) (ix2 i j) = (if i = j then 1 else 0 : EReal) := by
  pointwise [k0_pay16]
  rw [same_word, num_ofBool]

theorem gram_at (i j : Fin 32) : k0_pay17 (F := Ideal) C N2 (ix2 i j)
    = (∑ e, C (ix2 e i) * C (ix2 e i) + N2 (ix2 0 j) - Spec.two * ∑ e, C (ix2 e i) * C (ix2 e j) : EReal) := by
  pointwise [k0_pay17]
  simp only [eye_at, mul_num]
  rw [Finset.sum_ite_eq Finset.univ i, if_pos (Finset.mem_univ _)]

theorem dist_at : k0_pay19 (F := Ideal) (k0_pay13 CT) (iota .tc S32x32 32 [0] iota_S32x32_d0_w32) (iota .tc S32x32 32 [1] iota_S32x32_d1_w32)
      k0_pay16 (k0_pay17 C N2) k0_pay18
    = Ideal.div (∑ i, ∑ j, if Spec.pr (row CT) i j then
        max (Spec.three - Ideal.sqrt (max (k0_pay17 C N2 (ix2 i j)) 0 + Spec.eps)) 0 * max (Spec.three - Ideal.sqrt (max (k0_pay17 C N2 (ix2 i j)) 0 + Spec.eps)) 0 else 0)
      (max (∑ i, ∑ j, if Spec.pr (row CT) i j then 1 else 0) 1) := by
  have hz : ∀ i j : Fin 32, k0_pay18 (F := Ideal) (ix2 i j) = (0 : EReal) := fun i j => by pointwise [k0_pay18]
  have hp : ∀ i j : Fin 32, ((if Spec.ok (row CT) i then 1 else 0) * (if Spec.ok (row CT) j then 1 else 0) * (if i.val < j.val then 1 else 0) : EReal)
      = if Spec.pr (row CT) i j then 1 else 0 := fun i j => by
    rw [num_num, num_num]
    exact if_congr Iff.rfl rfl rfl
  have hv : ∀ i : Fin 32, (∑ x, (if i = x then 1 else 0) * (if Spec.ok (row CT) x then 1 else 0) : EReal) = if Spec.ok (row CT) i then 1 else 0 := fun i => by
    simp only [num_mul]
    rw [Finset.sum_ite_eq Finset.univ i, if_pos (Finset.mem_univ _)]
  pointwise [k0_pay19]
  simp only [valid_at, eye_at, hz, before_word, num_ofBool, hv, hp]
  simp only [num_mul]

/-- The four results as one row. -/
theorem out_at (a b c d : EReal) (j : Fin 4) : k0_pay10 (F := Ideal) a b c d (ix2 0 j)
    = (![Ideal.div b (max a 1) + Ideal.div c (max a 1) + Ideal.ofBits FTy.f32 0x3A83126F#32 * Ideal.div d (max a 1),
        Ideal.div b (max a 1), Ideal.div c (max a 1), Ideal.div d (max a 1)] j : EReal) := by
  pointwise [k0_pay10]
  rw [show (0#32 : BitVec 32) = BitVec.ofNat 32 (0 : Fin 4).val from rfl, show (1#32 : BitVec 32) = BitVec.ofNat 32 (1 : Fin 4).val from rfl,
    show (2#32 : BitVec 32) = BitVec.ofNat 32 (2 : Fin 4).val from rfl, show (3#32 : BitVec 32) = BitVec.ofNat 32 (3 : Fin 4).val from rfl]
  simp only [lane_word, num_ofBool, mul_num]
  fin_cases j <;> simp

end Cert.KernelIdeal.Hand

end
-- ==== Proof.IState.lean ====
/-
  What the scratch holds at each point, number by number: the sums and counts grow by a stretch of pixels a point, the means
  stand at the first phase's end, the hinge sums grow in the second phase, and the accumulators take a sample's terms at its end.
-/
module

public import proofs.«01_k».proof.Proof.IPay
public import proofs.«01_k».proof.Proof.IInv

@[expose] public section

set_option maxRecDepth 16384

noncomputable section

namespace Cert.KernelIdeal.Hand

open Idealize.ShloMosaic Idealize.ShloMosaic.TcCoe Idealize.SL.Sem
open Cert.KernelIdeal Cert.KernelIdeal.Gen

/-- The point of sample `b`, phase `p`, stretch `n`. -/
def pt (b : Fin 4) (p : Fin 2) (n : Fin 8) : Fin grid0.N := ⟨16 * b.val + 8 * p.val + n.val, by
  have := b.isLt; have := p.isLt; have := n.isLt; show _ < 64; omega⟩

theorem co_pt : ∀ b p n, co0 (pt b p n) = b ∧ ((grid0.coords (pt b p n)) 1).val = p.val ∧ co2 (pt b p n) = n := by decide +kernel

theorem slot_at (V : S4x32x262144.Idx → Elt Ideal .f32) (b : Fin 4) (k : Fin 8) (e : Fin 32) (l : Fin 32768) :
    slotVal (F := Ideal) V b k (ix2 e l) = V (ix3 b e (Spec.px k l)) := by
  refine congrArg V (funext fun a => Fin.ext ?_)
  fin_cases a
  · rfl
  · show 0 + 1 * e.val = e.val; omega
  · show 32768 * k.val + 1 * l.val = k.val * 32768 + l.val; omega

section State

variable (V : S4x32x262144.Idx → Elt Ideal .f32) (Mks : Fin grid0.N → Vec Ideal S1x1x32768 .i32) (K : Fin 4 → Fin 262144 → BitVec 32)

/-- Sample `b`'s pixels. -/
abbrev XS (b : Fin 4) : Fin 32 → Fin 262144 → EReal := fun e n => V (ix3 b e n)
/-- The accumulators as sample `b` finds them. -/
def accIn (b : Fin 4) : Vec Ideal S4 .f32 := if b.val = 0 then accZero else (stAt V Mks (16 * b.val)).A

variable (hK : ∀ b p n l, Mks (pt b p n) (ix3 0 0 l) = K b (Spec.px n l))
include hK

/-- The first phase, after stretch `n`. -/
structure Stage0 (b : Fin 4) (n : ℕ) (s : St Ideal) : Prop where
  S : ∀ e c : Fin 32, s.S (ix2 e c) = Spec.upto (Spec.chunk (K b) (XS V b e) c) n
  CT : ∀ c : Fin 32, s.CT (ix2 0 c) = Spec.upto (Spec.chunk (K b) (fun _ => 1) c) n
  A : s.A = accIn V Mks b
  M : n = 7 → s.C = k0_pay5 s.CT s.S ∧ s.N2 = k0_pay6 s.CT s.S

omit hK in
theorem zero32 (e c : Fin 32) : k0_pay11 (F := Ideal) (ix2 e c) = (0 : EReal) := by pointwise [k0_pay11]
omit hK in
theorem zero12 (c : Fin 32) : k0_pay12 (F := Ideal) (ix2 0 c) = (0 : EReal) := by pointwise [k0_pay12]
omit hK in
theorem zero23 (c : Fin 32) : k0_pay23 (F := Ideal) (ix2 0 c) = (0 : EReal) := by pointwise [k0_pay23]

/-- The class sums a point leaves. -/
theorem sumNext_at (b : Fin 4) (p : Fin 2) (n : Fin 8) (S : Vec Ideal S32x32 .f32) (e c : Fin 32) :
    sumNext V (grid0.coords (pt b p n)) (Mks (pt b p n)) S (ix2 e c)
      = ((if n.val = 0 then 0 else S (ix2 e c)) + Spec.chunk (K b) (XS V b e) c n : EReal) := by
  obtain ⟨h0, -, h2⟩ := co_pt b p n
  unfold sumNext
  rw [sums_at, show (grid0.coords (pt b p n)) 0 = b from h0, show (grid0.coords (pt b p n)) 2 = n from h2]
  simp only [slot_at, hK]
  by_cases h : n.val = 0
  · rw [if_pos h, if_pos h, zero32]; rfl
  · rw [if_neg h, if_neg h]; rfl

theorem cntNext_at (b : Fin 4) (p : Fin 2) (n : Fin 8) (CT : Vec Ideal S1x32 .f32) (c : Fin 32) :
    cntNext (grid0.coords (pt b p n)) (Mks (pt b p n)) CT (ix2 0 c)
      = ((if n.val = 0 then 0 else CT (ix2 0 c)) + Spec.chunk (K b) (fun _ => 1) c n : EReal) := by
  obtain ⟨h0, -, h2⟩ := co_pt b p n
  unfold cntNext
  rw [counts_at, show (grid0.coords (pt b p n)) 2 = n from h2]
  simp only [hK]
  by_cases h : n.val = 0
  · rw [if_pos h, if_pos h, zero12]; rfl
  · rw [if_neg h, if_neg h]; rfl

omit hK in
/-- A sum that starts afresh at the first stretch and grows by one more. -/
theorem upto_step (g : Fin 8 → EReal) (n : Fin 8) (a : EReal) (h : ∀ k, n.val = k + 1 → a = Spec.upto g k) :
    (if n.val = 0 then 0 else a) + g n = Spec.upto g n.val := by
  obtain ⟨n, hn⟩ := n
  cases n with
  | zero => rw [if_pos rfl]; exact (Spec.upto_zero g).symm
  | succ k => rw [if_neg (Nat.succ_ne_zero k), h k rfl]; exact (Spec.upto_succ g ⟨k + 1, hn⟩ k rfl).symm

theorem stage0_step (b : Fin 4) (n : Fin 8) (ih : ∀ k, n.val = k + 1 → Stage0 V Mks K b k (stAt V Mks (16 * b.val + n.val))) :
    Stage0 V Mks K b n.val (stAt V Mks (16 * b.val + n.val + 1)) := by
  obtain ⟨h0, h1, h2⟩ := co_pt b 0 n
  have h0' : ((grid0.coords (pt b 0 n)) 0).val = b.val := congrArg Fin.val h0
  have h2' : ((grid0.coords (pt b 0 n)) 2).val = n.val := congrArg Fin.val h2
  have hs : stAt V Mks (16 * b.val + n.val + 1) = stepSt V (grid0.coords (pt b 0 n)) (Mks (pt b 0 n)) (stAt V Mks (16 * b.val + n.val)) :=
    stAt_succ V Mks (pt b 0 n)
  rw [hs]
  generalize hg : stAt V Mks (16 * b.val + n.val) = s at ih ⊢
  have hS : (stepSt V (grid0.coords (pt b 0 n)) (Mks (pt b 0 n)) s).S = sumNext V (grid0.coords (pt b 0 n)) (Mks (pt b 0 n)) s.S := if_pos h1
  have hC : (stepSt V (grid0.coords (pt b 0 n)) (Mks (pt b 0 n)) s).CT = cntNext (grid0.coords (pt b 0 n)) (Mks (pt b 0 n)) s.CT := if_pos h1
  constructor
  · intro e c
    rw [hS, sumNext_at V Mks K hK]
    exact upto_step _ n _ fun k hk => (ih k hk).S e c
  · intro c
    rw [hC, cntNext_at Mks K hK]
    exact upto_step _ n _ fun k hk => (ih k hk).CT c
  · show (if _ then accZero else if _ then _ else s.A) = _
    rw [h0', h1, h2']
    by_cases hn : n.val = 0
    · by_cases hb : b.val = 0
      · rw [if_pos ⟨hb, rfl, hn⟩, accIn, if_pos hb]
      · rw [if_neg (fun h => hb h.1), if_neg (fun h => absurd h.1 (by decide)), accIn, if_neg hb, ← hg, hn]; rfl
    · obtain ⟨k, hk⟩ := Nat.exists_eq_succ_of_ne_zero hn
      rw [if_neg (fun h => hn h.2.2), if_neg (fun h => absurd h.1 (by decide))]
      exact (ih k hk).A
  · intro hn
    rw [hS, hC]
    exact ⟨if_pos ⟨h1, h2'.trans hn⟩, if_pos ⟨h1, h2'.trans hn⟩⟩

theorem stage0 (b : Fin 4) : ∀ n (hn : n < 8), Stage0 V Mks K b n (stAt V Mks (16 * b.val + n + 1)) := by
  intro n
  induction n with
  | zero => exact fun hn => stage0_step V Mks K hK b ⟨0, hn⟩ fun k hk => absurd hk (Nat.succ_ne_zero k).symm
  | succ n ih =>
    intro hn
    refine stage0_step V Mks K hK b ⟨n + 1, hn⟩ fun k hk => ?_
    obtain rfl : n = k := Nat.succ.inj hk
    exact ih (by omega)

omit hK in
/-- Counts, means and squared norms of a sample. -/
structure Means (b : Fin 4) (s : St Ideal) : Prop where
  CT : ∀ c : Fin 32, s.CT (ix2 0 c) = Spec.cnt (K b) c
  C : ∀ e c : Fin 32, s.C (ix2 e c) = Spec.cen (XS V b) (K b) c e
  N2 : ∀ c : Fin 32, s.N2 (ix2 0 c) = (∑ e, Spec.cen (XS V b) (K b) c e * Spec.cen (XS V b) (K b) c e : EReal)

theorem means (b : Fin 4) : Means V K b (stAt V Mks (16 * b.val + 8)) := by
  have h := stage0 V Mks K hK b 7 (by decide)
  have hct : ∀ c : Fin 32, (stAt V Mks (16 * b.val + 8)).CT (ix2 0 c) = Spec.cnt (K b) c := fun c => (h.CT c).trans (Spec.upto_last _ _ c)
  have hcen : ∀ e c : Fin 32, (Ideal.div ((stAt V Mks (16 * b.val + 8)).S (ix2 e c)) (max ((stAt V Mks (16 * b.val + 8)).CT (ix2 0 c)) 1) : EReal)
      = Spec.cen (XS V b) (K b) c e := fun e c => by
    rw [hct c, show (stAt V Mks (16 * b.val + 8)).S (ix2 e c) = _ from (h.S e c).trans (Spec.upto_last _ _ c)]
    rfl
  refine ⟨hct, fun e c => ?_, fun c => ?_⟩
  · rw [show (stAt V Mks (16 * b.val + 8)).C = _ from (h.M rfl).1, means_at]
    exact hcen e c
  · rw [show (stAt V Mks (16 * b.val + 8)).N2 = _ from (h.M rfl).2, norms_at]
    exact Finset.sum_congr rfl fun e _ => by rw [hcen e c]

variable (hX : ∀ b e n, Spec.Real' (XS V b e n))
include hX

/-- The hinge sums a point leaves. -/
theorem hsNext_at (b : Fin 4) (p : Fin 2) (n : Fin 8) (s : St Ideal) (hm : Means V K b s) (c : Fin 32) :
    hsNext V (grid0.coords (pt b p n)) (Mks (pt b p n)) s.C s.N2 s.H (ix2 0 c)
      = ((if n.val = 0 then 0 else s.H (ix2 0 c)) + Spec.chunk (K b) (Spec.hin (XS V b) (K b) c) c n : EReal) := by
  obtain ⟨h0, -, h2⟩ := co_pt b p n
  unfold hsNext
  rw [hinges_at, show (grid0.coords (pt b p n)) 0 = b from h0, show (grid0.coords (pt b p n)) 2 = n from h2]
  simp only [slot_at, hK, hm.C, hm.N2]
  have e : ∀ l : Fin 32768, hinK (fun e => V (ix3 b e (Spec.px n l))) (fun e => Spec.cen (XS V b) (K b) c e)
      (∑ e, Spec.cen (XS V b) (K b) c e * Spec.cen (XS V b) (K b) c e) = Spec.hin (XS V b) (K b) c (Spec.px n l) := fun l =>
    Spec.hin_expand (XS V b) (K b) (hX b) c (Spec.px n l)
  simp only [e]
  by_cases h : n.val = 0
  · rw [if_pos h, if_pos h, zero23]; rfl
  · rw [if_neg h, if_neg h]; rfl

/-- The second phase, after stretch `n`. -/
structure Stage1 (b : Fin 4) (n : ℕ) (s : St Ideal) : Prop where
  M : Means V K b s
  H : ∀ c : Fin 32, s.H (ix2 0 c) = Spec.upto (Spec.chunk (K b) (Spec.hin (XS V b) (K b) c) c) n
  A : s.A = if n = 7 then accNext s.C s.N2 s.H s.CT (accIn V Mks b) else accIn V Mks b

theorem stage1_step (b : Fin 4) (n : Fin 8) (hm : Means V K b (stAt V Mks (16 * b.val + 8 + n.val)))
    (hA : (stAt V Mks (16 * b.val + 8 + n.val)).A = accIn V Mks b)
    (ih : ∀ k, n.val = k + 1 → ∀ c : Fin 32, (stAt V Mks (16 * b.val + 8 + n.val)).H (ix2 0 c) = Spec.upto (Spec.chunk (K b) (Spec.hin (XS V b) (K b) c) c) k) :
    Stage1 V Mks K b n.val (stAt V Mks (16 * b.val + 8 + n.val + 1)) := by
  obtain ⟨h0, h1, h2⟩ := co_pt b 1 n
  have h2' : ((grid0.coords (pt b 1 n)) 2).val = n.val := congrArg Fin.val h2
  have hp : ¬ ((grid0.coords (pt b 1 n)) 1).val = 0 := by rw [h1]; decide
  have hs : stAt V Mks (16 * b.val + 8 + n.val + 1) = stepSt V (grid0.coords (pt b 1 n)) (Mks (pt b 1 n)) (stAt V Mks (16 * b.val + 8 + n.val)) :=
    stAt_succ V Mks (pt b 1 n)
  rw [hs]
  generalize stAt V Mks (16 * b.val + 8 + n.val) = s at hm hA ih ⊢
  have hCT : (stepSt V (grid0.coords (pt b 1 n)) (Mks (pt b 1 n)) s).CT = s.CT := if_neg hp
  have hC : (stepSt V (grid0.coords (pt b 1 n)) (Mks (pt b 1 n)) s).C = s.C := if_neg fun h => hp h.1
  have hN : (stepSt V (grid0.coords (pt b 1 n)) (Mks (pt b 1 n)) s).N2 = s.N2 := if_neg fun h => hp h.1
  have hH : (stepSt V (grid0.coords (pt b 1 n)) (Mks (pt b 1 n)) s).H = hsNext V (grid0.coords (pt b 1 n)) (Mks (pt b 1 n)) s.C s.N2 s.H := if_neg hp
  refine ⟨⟨fun c => by rw [hCT]; exact hm.CT c, fun e c => by rw [hC]; exact hm.C e c, fun c => by rw [hN]; exact hm.N2 c⟩, fun c => ?_, ?_⟩
  · rw [hH, hsNext_at V Mks K hK hX b 1 n s hm c]
    exact upto_step _ n _ fun k hk => ih k hk c
  · rw [hH, hC, hN, hCT]
    show (if _ then accZero else if _ then _ else s.A) = _
    rw [if_neg (fun h => hp h.2.1), hA]
    exact if_congr ⟨fun h => h2'.symm.trans h.2, fun h => ⟨h1, h2'.trans h⟩⟩ rfl rfl

theorem stage1 (b : Fin 4) : ∀ n (hn : n < 8), Stage1 V Mks K b n (stAt V Mks (16 * b.val + 8 + n + 1)) := by
  intro n
  induction n with
  | zero =>
    intro hn
    refine stage1_step V Mks K hK hX b ⟨0, hn⟩ (means V Mks K hK b) (stage0 V Mks K hK b 7 (by decide)).A fun k hk => ?_
    exact absurd hk (Nat.succ_ne_zero k).symm
  | succ n ih =>
    intro hn
    have h := ih (by omega)
    refine stage1_step V Mks K hK hX b ⟨n + 1, hn⟩ h.M (h.A.trans (if_neg (by omega))) fun k hk => ?_
    obtain rfl : n = k := Nat.succ.inj hk
    exact h.H

/-! ## The accumulators at a sample's end -/

omit hX hK in
theorem accVar_at (n x a : EReal) : k0_pay22 (F := Ideal) n x a = (a + x * (if 0 < n then 1 else 0) : EReal) := by
  pointwise [k0_pay22]
  rw [has_at]
omit hX hK in
theorem accDist_at (x h a : EReal) : k0_pay7 (F := Ideal) x h a = (a + x * h : EReal) := by pointwise [k0_pay7]
omit hX hK in
theorem accReg_at (x h a : EReal) : k0_pay8 (F := Ideal) x h a = (a + x * h : EReal) := by pointwise [k0_pay8]
omit hX hK in
theorem accHas_at (h a : EReal) : k0_pay9 (F := Ideal) h a = (a + h : EReal) := by pointwise [k0_pay9]

omit hX hK in
theorem lane0 (CT N2 H : Vec Ideal S1x32 .f32) (C : Vec Ideal S32x32 .f32) (A : Vec Ideal S4 .f32) (T h : Fin 32 → EReal) (hT : row CT = T) (hH : row H = h) :
    accNext C N2 H CT A (sm 0) = (A (sm 0) + Spec.lv T h : EReal) := by
  show k0_pay22 (F := Ideal) (k0_pay14 CT) (k0_pay15 CT H) (A (sm 0)) = _
  rw [accVar_at, ninst_at, var_at, hT, hH]
  rfl
omit hX hK in
theorem lane1 (CT N2 H : Vec Ideal S1x32 .f32) (C : Vec Ideal S32x32 .f32) (A : Vec Ideal S4 .f32) (T : Fin 32 → EReal) (Ce : Fin 32 → Fin 32 → EReal)
    (hT : row CT = T) (hC : ∀ e c : Fin 32, C (ix2 e c) = Ce c e) (hN : ∀ c, row N2 c = ∑ e, Ce c e * Ce c e) (hR : ∀ c e, Spec.Real' (Ce c e)) :
    accNext C N2 H CT A (sm 1) = (A (sm 1) + Spec.ld T Ce : EReal) := by
  show k0_pay7 (F := Ideal) (k0_pay19 (k0_pay13 CT) (iota .tc S32x32 32 [0] iota_S32x32_d0_w32) (iota .tc S32x32 32 [1] iota_S32x32_d1_w32) k0_pay16 (k0_pay17 C N2) k0_pay18)
    (k0_pay21 (k0_pay14 CT)) (A (sm 1)) = _
  rw [accDist_at, ninst_at, has_at, dist_at, hT]
  have hg : ∀ i j : Fin 32, max (k0_pay17 (F := Ideal) C N2 (ix2 i j)) 0 = (∑ e, (Ce i e - Ce j e) * (Ce i e - Ce j e) : EReal) := fun i j => by
    rw [gram_at, show N2 (ix2 0 j) = _ from hN j]
    simp only [hC]
    exact Spec.gram_expand _ _ (hR i) (hR j)
  simp only [hg]
  rfl
omit hX hK in
theorem lane2 (CT N2 H : Vec Ideal S1x32 .f32) (C : Vec Ideal S32x32 .f32) (A : Vec Ideal S4 .f32) (T : Fin 32 → EReal) (Ce : Fin 32 → Fin 32 → EReal)
    (hT : row CT = T) (hN : ∀ c, row N2 c = ∑ e, Ce c e * Ce c e) :
    accNext C N2 H CT A (sm 2) = (A (sm 2) + Spec.lr T Ce : EReal) := by
  show k0_pay8 (F := Ideal) (k0_pay20 (k0_pay13 CT) (k0_pay14 CT) N2) (k0_pay21 (k0_pay14 CT)) (A (sm 2)) = _
  rw [accReg_at, reg_at, has_at, ninst_at, hT]
  simp only [hN]
  rfl
omit hX hK in
theorem lane3 (CT N2 H : Vec Ideal S1x32 .f32) (C : Vec Ideal S32x32 .f32) (A : Vec Ideal S4 .f32) (T : Fin 32 → EReal) (hT : row CT = T) :
    accNext C N2 H CT A (sm 3) = (A (sm 3) + Spec.has T : EReal) := by
  show k0_pay9 (F := Ideal) (k0_pay21 (k0_pay14 CT)) (A (sm 3)) = _
  rw [accHas_at, has_at, ninst_at, hT]
  rfl

omit hX hK in
theorem vec4 (a b c d : EReal) : ![a, b, c, d] 0 = a ∧ ![a, b, c, d] 1 = b ∧ ![a, b, c, d] 2 = c ∧ ![a, b, c, d] 3 = d := ⟨rfl, rfl, rfl, rfl⟩

theorem sampleEnd (b : Fin 4) : Stage1 V Mks K b 7 (stAt V Mks (16 * b.val + 16)) := by
  have h := stage1 V Mks K hK hX b 7 (by decide)
  rw [show 16 * b.val + 8 + 7 + 1 = 16 * b.val + 16 by omega] at h
  exact h

theorem rowH (b : Fin 4) (s : St Ideal) (h : Stage1 V Mks K b 7 s) : row s.H = Spec.hs (XS V b) (K b) := funext fun c => by
  show s.H (ix2 0 c) = _
  rw [h.H, Spec.upto_last]
  rfl

omit hX hK in
theorem accOf (b : Fin 4) (s : St Ideal) (A : Vec Ideal S4 .f32) (hm : Means V K b s) (hh : row s.H = Spec.hs (XS V b) (K b))
    (hA : s.A = accNext s.C s.N2 s.H s.CT A) (hr : ∀ c e, Spec.Real' (Spec.cen (XS V b) (K b) c e)) (j : Fin 4) :
    s.A (sm j) = (A (sm j) + Spec.terms (XS V) K b j : EReal) := by
  have hct : row s.CT = Spec.cnt (K b) := funext hm.CT
  obtain ⟨e0, e1, e2, e3⟩ := vec4 (Spec.lv (Spec.cnt (K b)) (Spec.hs (XS V b) (K b))) (Spec.ld (Spec.cnt (K b)) (Spec.cen (XS V b) (K b)))
    (Spec.lr (Spec.cnt (K b)) (Spec.cen (XS V b) (K b))) (Spec.has (Spec.cnt (K b)))
  unfold Spec.terms
  rw [hA]
  match j with
  | 0 => rw [e0]; exact lane0 _ _ _ _ _ _ _ hct hh
  | 1 => rw [e1]; exact lane1 _ _ _ _ _ _ _ hct hm.C hm.N2 hr
  | 2 => rw [e2]; exact lane2 _ _ _ _ _ _ _ hct hm.N2
  | 3 => rw [e3]; exact lane3 _ _ _ _ _ _ hct

theorem accOut (b : Fin 4) (j : Fin 4) : (stAt V Mks (16 * b.val + 16)).A (sm j) = (accIn V Mks b (sm j) + Spec.terms (XS V) K b j : EReal) := by
  have h := sampleEnd V Mks K hK hX b
  exact accOf V K b _ _ h.M (rowH V Mks K hK hX b _ h) (h.A.trans (if_pos rfl)) (Spec.cen_real _ _ (hX b)) j

omit hX hK in
theorem accIn_next (a b : Fin 4) (h : b.val = a.val + 1) : accIn V Mks b = (stAt V Mks (16 * a.val + 16)).A := by
  unfold accIn
  rw [if_neg (by omega), show 16 * b.val = 16 * a.val + 16 by omega]

omit hX hK in
theorem accIn_first (j : Fin 4) : accIn V Mks 0 (sm j) = (0 : EReal) := by
  unfold accIn
  rw [if_pos (by decide)]
  exact Ideal.ofBits_zero .f32

/-- The accumulators at the end: the four samples' terms in order. -/
theorem accEnd (j : Fin 4) : (stAt V Mks 64).A (sm j) = Spec.sum4 fun b => Spec.terms (XS V) K b j := by
  rw [show 64 = 16 * (3 : Fin 4).val + 16 by decide, accOut V Mks K hK hX 3 j, accIn_next V Mks 2 3 (by decide), accOut V Mks K hK hX 2 j,
    accIn_next V Mks 1 2 (by decide), accOut V Mks K hK hX 1 j, accIn_next V Mks 0 1 (by decide), accOut V Mks K hK hX 0 j, accIn_first V Mks j]
  unfold Spec.sum4
  rfl

/-- The result row: the total and the three means. -/
theorem outEnd (j : Fin 4) : outOf (stAt V Mks 64).A (ix2 0 j)
    = (![Spec.tot (XS V) K, Spec.res (XS V) K 0, Spec.res (XS V) K 1, Spec.res (XS V) K 2] j : EReal) := by
  unfold outOf
  refine (out_at _ _ _ _ j).trans ?_
  rw [accEnd V Mks K hK hX 0, accEnd V Mks K hK hX 1, accEnd V Mks K hK hX 2, accEnd V Mks K hK hX 3]
  unfold Spec.tot Spec.res Spec.mean4
  rfl

end State

end Cert.KernelIdeal.Hand

end
-- ==== Proof.IFinal.lean ====
/-
  The kernel's four results, in terms of the arguments' pixels and labels.
-/
module

public import proofs.«01_k».proof.Proof.IState
public import proofs.«01_k».proof.Proof.ILaunch
public import Idealize.ShloMosaic.Lib.Pipeline.ValueKit
public import Idealize.ShloMosaic.Lib.StableHlo.ReadAt

@[expose] public section

set_option maxRecDepth 16384

noncomputable section

namespace Cert.KernelIdeal.Hand

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The arguments' pixels and labels. -/
abbrev PX : Fin 4 → Fin 32 → Fin 262144 → EReal := Spec.pix (m ((c : Thread nD τ).loc main_arg0))
abbrev LB : Fin 4 → Fin 262144 → BitVec 32 := Spec.lab (m ((c : Thread nD τ).loc main_arg1))

theorem emb_at (b : Fin 4) (e : Fin 32) (n : Fin 262144) : emb m c (ix3 b e n) = PX m c b e n := by
  unfold emb V
  after_reads_at
  rfl

theorem lab_at (b : Fin 4) (n : Fin 262144) : V m c main_v1 (ix3 b 0 n) = LB m c b n := by
  unfold V
  after_reads_at
  rfl

theorem idx_pt : ∀ b p n, win0_0.index (pt b p n) = ![b.val, 0, n.val] := by decide +kernel

theorem mask_at (b : Fin 4) (p : Fin 2) (n : Fin 8) (l : Fin 32768) : mkAt m c (pt b p n) (ix3 0 0 l) = LB m c b (Spec.px n l) := by
  rw [← lab_at]
  unfold mkAt iblk
  refine congrArg (V m c main_v1) (funext fun a => Fin.ext ?_)
  blk_simp [idx_pt]
  fin_cases a
  · simp
  · simp
  · simp [Spec.px]

/-- The last point. -/
def lastPt : Fin cfg0.N := ⟨63, by decide⟩

theorem arr_out : (dats m 0 c).arrAt 1 (cfgs 0).N = outOf (stM m c 64).A := by
  refine (dats m 0 c).arrAt_eq_of_after_last 1 lastPt (by decide +kernel) _ fun j => ?_
  blk_simp
  rfl

variable (hX : ∀ b e n, Spec.Real' (PX m c b e n))

theorem XS_eq : XS (emb m c) = PX m c := funext fun b => funext fun e => funext fun n => emb_at m c b e n

include hX in
theorem row_out (j : Fin 4) : (dats m 0 c).arrAt 1 (cfgs 0).N (ix2 0 j)
    = (![Spec.tot (PX m c) (LB m c), Spec.res (PX m c) (LB m c) 0, Spec.res (PX m c) (LB m c) 1, Spec.res (PX m c) (LB m c) 2] j : EReal) := by
  rw [arr_out, ← XS_eq]
  exact outEnd (emb m c) (mkAt m c) (LB m c) (mask_at m c) (fun b e n => by rw [XS_eq]; exact hX b e n) j

theorem arr_at (i : S1x4.Idx) : Pipeline.withArrays (cfgs 0).spec c (V0 m c) (fun w => (dats m 0 c).arrAt w (cfgs 0).N) (Proc.tc.devRef main_v2) i
    = (dats m 0 c).arrAt 1 (cfgs 0).N i :=
  congrFun (Pipeline.withArrays_arr (τ := τ) spec0 (by decide) c (V0 m c) (fun w => (dats m 0 c).arrAt w (cfgs 0).N) 1) i

theorem end_v4 : Pipeline.afterTail₀ cfgs (dats m) 0 (V0 m) [hostOps1] c main_v4 ix0 = (dats m 0 c).arrAt 1 (cfgs 0).N (ix2 0 0) := by
  unfold Pipeline.afterTail₀
  after_reads_at
  exact arr_at m c _
theorem end_v6 : Pipeline.afterTail₀ cfgs (dats m) 0 (V0 m) [hostOps1] c main_v6 ix0 = (dats m 0 c).arrAt 1 (cfgs 0).N (ix2 0 1) := by
  unfold Pipeline.afterTail₀
  after_reads_at
  exact arr_at m c _
theorem end_v8 : Pipeline.afterTail₀ cfgs (dats m) 0 (V0 m) [hostOps1] c main_v8 ix0 = (dats m 0 c).arrAt 1 (cfgs 0).N (ix2 0 2) := by
  unfold Pipeline.afterTail₀
  after_reads_at
  exact arr_at m c _
theorem end_v10 : Pipeline.afterTail₀ cfgs (dats m) 0 (V0 m) [hostOps1] c main_v10 ix0 = (dats m 0 c).arrAt 1 (cfgs 0).N (ix2 0 3) := by
  unfold Pipeline.afterTail₀
  after_reads_at
  exact arr_at m c _

/-- A result of one number. -/
def one (v : EReal) : FVec Ideal S_ .f32 := fun _ => v

theorem eq_one (f : FVec Ideal S_ .f32) (v : EReal) (h : f ix0 = v) : f = one v := funext fun i => by
  rw [show i = ix0 from funext fun a => a.elim0]
  exact h

/-- The program's four results, and its arguments as they were. -/
theorem run_values (ρ : Dev nD → PrngReg) (hX : ∀ c b e n, Spec.Real' (PX m c b e n)) :
    θ_run defs (onTc (τ := τ) (main (F := Ideal))) ⟨m, fun _ => 0, ρ⟩ fun r => ∀ c : Dev nD,
      r.2.mem ((c.tc : Thread nD τ).loc main_v4) = one (Spec.tot (PX m c) (LB m c))
      ∧ r.2.mem ((c.tc : Thread nD τ).loc main_v6) = one (Spec.res (PX m c) (LB m c) 0)
      ∧ r.2.mem ((c.tc : Thread nD τ).loc main_v8) = one (Spec.res (PX m c) (LB m c) 1)
      ∧ r.2.mem ((c.tc : Thread nD τ).loc main_v10) = one (Spec.res (PX m c) (LB m c) 2)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h.1 c).2 main_v4 (Pipeline.mem_restRefs_of main_v4 (by decide) (by decide))).trans (eq_one _ _ ((end_v4 m c).trans (row_out m c (hX c) 0))),
      ((h.1 c).2 main_v6 (Pipeline.mem_restRefs_of main_v6 (by decide) (by decide))).trans (eq_one _ _ ((end_v6 m c).trans (row_out m c (hX c) 1))),
      ((h.1 c).2 main_v8 (Pipeline.mem_restRefs_of main_v8 (by decide) (by decide))).trans (eq_one _ _ ((end_v8 m c).trans (row_out m c (hX c) 2))),
      ((h.1 c).2 main_v10 (Pipeline.mem_restRefs_of main_v10 (by decide) (by decide))).trans (eq_one _ _ ((end_v10 m c).trans (row_out m c (hX c) 3))),
      ((h.1 c).2 main_arg0 (Pipeline.mem_restRefs_of main_arg0 (by decide) (by decide))).trans (end_main_arg0 m c),
      ((h.1 c).2 main_arg1 (Pipeline.mem_restRefs_of main_arg1 (by decide) (by decide))).trans (end_main_arg1 m c)⟩) (run_main m ρ)

end Cert.KernelIdeal.Hand

end
-- ==== Proof.RDefs.lean ====
/-
  The reference's computation on one sample, as one function of the sample's pixels and labels; the four results of the run in its terms.
-/
module

public import proofs.«01_k».proof.Proof.Gen.ReferenceIdeal.Run

@[expose] public section

set_option maxRecDepth 16384

noncomputable section

namespace Cert.ReferenceIdeal.Samp

open Idealize.ShloMosaic Idealize.ShloMosaic.TcCoe Idealize.SL.Sem Idealize.ShloMosaic.StableHlo
open Cert.ReferenceIdeal Cert.ReferenceIdeal.Gen Cert.ReferenceIdeal.Value

variable {F : FTy → Type} [FloatOps F]

/-- How many pixels carry each class. -/
def cnt (k : IVec S262144 32) : FVec F S32 .f32 :=
  Host.scatterAdd scatter_S32_S262144x1_S262144_n_0_0_1 (broadcastInDim S32 ![] bcast_S_S32 (constant S_ .f32 0x00000000#32)) (broadcastInDim S262144x1 ![0] bcast_S262144_S262144x1_0 k) (broadcastInDim S262144 ![] bcast_S_S262144 (constant S_ .f32 0x3F800000#32))

/-- The counts, at least one. -/
def safe (k : IVec S262144 32) : FVec F S32 .f32 :=
  maximumf (cnt k) (broadcastInDim S32 ![] bcast_S_S32 (constant S_ .f32 0x3F800000#32))

/-- The mean of each class. -/
def cen (x : FVec F S32x262144 .f32) (k : IVec S262144 32) : FVec F S32x32 .f32 :=
  Host.divf (Host.scatterAdd scatter_S32x32_S262144x1_S262144x32_1_0_0_1 (broadcastInDim S32x32 ![] bcast_S_S32x32 (constant S_ .f32 0x00000000#32)) (broadcastInDim S262144x1 ![0] bcast_S262144_S262144x1_0 k) (transpose S262144x32 [1, 0] x transposes_S32x262144_S262144x32_1_0)) (broadcastInDim S32x32 ![0, 1] bcast_S32x1_S32x32_0_1 (broadcastInDim S32x1 ![0] bcast_S32_S32x1_0 (safe k)))

/-- The classes that occur, the background left out. -/
def valid (k : IVec S262144 32) : IVec S32 1 :=
  andi (cmpf .ogt (cnt (F := F) k) (broadcastInDim S32 ![] bcast_S_S32 (constant S_ .f32 0x00000000#32))) (cmpi .sgt (iotaInDim S32 32 0) (broadcastInDim S32 ![] bcast_S_S32 (constantI S_ 32 0#32)))

/-- How many classes occur. -/
def nInst (k : IVec S262144 32) : FVec F S_ .f32 :=
  Host.reduceAdd (uitofp .f32 (valid (F := F) k)) (constant S_ .f32 0x00000000#32) reducesTo_S32_S_d0 h_S_

/-- Each pixel less the mean of its class. -/
def dev (x : FVec F S32x262144 .f32) (k : IVec S262144 32) : FVec F S262144x32 .f32 :=
  subf (transpose S262144x32 [1, 0] x transposes_S32x262144_S262144x32_1_0) (Host.gather gather_S32x32_S262144x1_S262144x32_1_0_n_n_0_1_132 (cen x k) (broadcastInDim S262144x1 ![0] bcast_S262144_S262144x1_0 (select (cmpi .slt k (broadcastInDim S262144 ![] bcast_S_S262144 (constantI S_ 32 0#32))) (addi k (broadcastInDim S262144 ![] bcast_S_S262144 (constantI S_ 32 32#32))) k)))

/-- By how much a pixel is too far from the mean of its class. -/
def hinge (x : FVec F S32x262144 .f32) (k : IVec S262144 32) : FVec F S262144 .f32 :=
  maximumf (subf (Host.sqrt (addf (Host.reduceAdd (mulf (dev x k) (dev x k)) (constant S_ .f32 0x00000000#32) reducesTo_S262144x32_S262144_d1 h_S_) (broadcastInDim S262144 ![] bcast_S_S262144 (constant S_ .f32 0x2B8CBCCC#32)))) (broadcastInDim S262144 ![] bcast_S_S262144 (constant S_ .f32 0x3F000000#32))) (broadcastInDim S262144 ![] bcast_S_S262144 (constant S_ .f32 0x00000000#32))

/-- The differences of the means. -/
def cdiff (x : FVec F S32x262144 .f32) (k : IVec S262144 32) : FVec F S32x32x32 .f32 :=
  subf (broadcastInDim S32x32x32 ![0, 1, 2] bcast_S32x1x32_S32x32x32_0_1_2 (broadcastInDim S32x1x32 ![0, 2] bcast_S32x32_S32x1x32_0_2 (cen x k))) (broadcastInDim S32x32x32 ![0, 1, 2] bcast_S1x32x32_S32x32x32_0_1_2 (broadcastInDim S1x32x32 ![1, 2] bcast_S32x32_S1x32x32_1_2 (cen x k)))

/-- The pairs of classes that occur, each once. -/
def pairs (k : IVec S262144 32) : IVec S32x32 1 :=
  andi (andi (broadcastInDim S32x32 ![0, 1] bcast_S32x1_S32x32_0_1 (broadcastInDim S32x1 ![0] bcast_S32_S32x1_0 (valid (F := F) k))) (broadcastInDim S32x32 ![0, 1] bcast_S1x32_S32x32_0_1 (broadcastInDim S1x32 ![1] bcast_S32_S1x32_1 (valid (F := F) k)))) (cmpi .slt (broadcastInDim S32x32 ![0, 1] bcast_S32x1_S32x32_0_1 (broadcastInDim S32x1 ![0] bcast_S32_S32x1_0 (iotaInDim S32 32 0))) (broadcastInDim S32x32 ![0, 1] bcast_S1x32_S32x32_0_1 (broadcastInDim S1x32 ![1] bcast_S32_S1x32_1 (iotaInDim S32 32 0))))

/-- By how much two means are too close. -/
def phinge (x : FVec F S32x262144 .f32) (k : IVec S262144 32) : FVec F S32x32 .f32 :=
  maximumf (subf (broadcastInDim S32x32 ![] bcast_S_S32x32 (constant S_ .f32 0x40400000#32)) (Host.sqrt (addf (Host.reduceAdd (mulf (cdiff x k) (cdiff x k)) (constant S_ .f32 0x00000000#32) reducesTo_S32x32x32_S32x32_d2 h_S_) (broadcastInDim S32x32 ![] bcast_S_S32x32 (constant S_ .f32 0x2B8CBCCC#32))))) (broadcastInDim S32x32 ![] bcast_S_S32x32 (constant S_ .f32 0x00000000#32))

/-- Whether a class occurs. -/
def has (k : IVec S262144 32) : FVec F S_ .f32 :=
  uitofp .f32 (cmpf .ogt (nInst (F := F) k) (constant S_ .f32 0x00000000#32))

/-- Each class's part of the squares. -/
def hsum (x : FVec F S32x262144 .f32) (k : IVec S262144 32) : FVec F S32 .f32 :=
  Host.scatterAdd scatter_S32_S262144x1_S262144_n_0_0_1 (broadcastInDim S32 ![] bcast_S_S32 (constant S_ .f32 0x00000000#32))
    (broadcastInDim S262144x1 ![0] bcast_S262144_S262144x1_0 k) (mulf (hinge x k) (hinge x k))

/-- The variance term. -/
def lossVar (x : FVec F S32x262144 .f32) (k : IVec S262144 32) : FVec F S_ .f32 :=
  mulf (Host.divf (Host.reduceAdd (select (valid (F := F) k) (Host.divf (hsum x k) (safe k)) (broadcastInDim S32 ![] bcast_S_S32 (id (constant S_ .f32 0x00000000#32))))
    (constant S_ .f32 0x00000000#32) reducesTo_S32_S_d0 h_S_) (maximumf (nInst k) (constant S_ .f32 0x3F800000#32))) (has k)

/-- The distance term. -/
def lossDist (x : FVec F S32x262144 .f32) (k : IVec S262144 32) : FVec F S_ .f32 :=
  mulf (Host.divf (Host.reduceAdd (select (pairs (F := F) k) (mulf (phinge x k) (phinge x k)) (broadcastInDim S32x32 ![] bcast_S_S32x32 (id (constant S_ .f32 0x00000000#32))))
    (constant S_ .f32 0x00000000#32) reducesTo_S32x32_S_d0_1 h_S_)
    (maximumf (Host.reduceAdd (uitofp .f32 (pairs (F := F) k)) (constant S_ .f32 0x00000000#32) reducesTo_S32x32_S_d0_1 h_S_) (constant S_ .f32 0x3F800000#32))) (has k)

/-- The term of the norms. -/
def lossReg (x : FVec F S32x262144 .f32) (k : IVec S262144 32) : FVec F S_ .f32 :=
  mulf (Host.divf (Host.reduceAdd (select (valid (F := F) k) (Host.sqrt (addf (Host.reduceAdd (mulf (cen x k) (cen x k)) (constant S_ .f32 0x00000000#32) reducesTo_S32x32_S32_d1 h_S_)
    (broadcastInDim S32 ![] bcast_S_S32 (constant S_ .f32 0x2B8CBCCC#32)))) (broadcastInDim S32 ![] bcast_S_S32 (id (constant S_ .f32 0x00000000#32))))
    (constant S_ .f32 0x00000000#32) reducesTo_S32_S_d0 h_S_) (maximumf (nInst k) (constant S_ .f32 0x3F800000#32))) (has k)

/-- Four numbers added in order. -/
def sum4 (f : Fin 4 → FVec F S_ .f32) : FVec F S_ .f32 := addf (addf (addf (addf (constant S_ .f32 0x00000000#32) (f 0)) (f 1)) (f 2)) (f 3)

/-- The mean over the samples that count. -/
def mean4 (k : Fin 4 → IVec S262144 32) (f : Fin 4 → FVec F S_ .f32) : FVec F S_ .f32 :=
  Host.divf (sum4 f) (maximumf (sum4 fun b => has (k b)) (constant S_ .f32 0x3F800000#32))

/-- The samples' pixels. -/
def xs (V0 : Valuation τ sig (Elt F)) : Fin 4 → FVec F S32x262144 .f32 := ![res_main_v3 V0, res_main_v105 V0, res_main_v207 V0, res_main_v309 V0]
/-- The samples' labels. -/
def ks (V0 : Valuation τ sig (Elt F)) : Fin 4 → IVec S262144 32 := ![res_main_v5 V0, res_main_v107 V0, res_main_v209 V0, res_main_v311 V0]

/-- The four results in terms of the samples. -/
def meanVar (V0 : Valuation τ sig (Elt F)) : FVec F S_ .f32 := mean4 (ks V0) fun b => lossVar (xs V0 b) (ks V0 b)
def meanDist (V0 : Valuation τ sig (Elt F)) : FVec F S_ .f32 := mean4 (ks V0) fun b => lossDist (xs V0 b) (ks V0 b)
def meanReg (V0 : Valuation τ sig (Elt F)) : FVec F S_ .f32 := mean4 (ks V0) fun b => lossReg (xs V0 b) (ks V0 b)
def totalOf (V0 : Valuation τ sig (Elt F)) : FVec F S_ .f32 :=
  addf (addf (mulf (constant S_ .f32 0x3F800000#32) (meanVar V0)) (mulf (constant S_ .f32 0x3F800000#32) (meanDist V0))) (mulf (constant S_ .f32 0x3A83126F#32) (meanReg V0))

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v418) = totalOf (launchContents m c)
      ∧ r.2.mem ((c.tc : Thread nD τ).loc main_v411) = meanVar (launchContents m c)
      ∧ r.2.mem ((c.tc : Thread nD τ).loc main_v412) = meanDist (launchContents m c)
      ∧ r.2.mem ((c.tc : Thread nD τ).loc main_v413) = meanReg (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1, (h c).2.1, (h c).2.2.1, (h c).2.2.2.1, (h c).2.2.2.2.1, (h c).2.2.2.2.2⟩) (Value.run m ρ)

end Cert.ReferenceIdeal.Samp

end
-- ==== Proof.RRead.lean ====
/-
  The reference's computation on one sample, read number by number over the extended reals.
-/
module

public import proofs.«01_k».proof.Proof.RDefs
public import proofs.«01_k».proof.Proof.Spec
public import Idealize.ShloMosaic.Lib.Pointwise
public import Idealize.ShloMosaic.Lib.Routing.Ops
public import Idealize.ShloMosaic.Lib.Routing.OpsPair

@[expose] public section

set_option maxRecDepth 16384

noncomputable section

namespace Cert.ReferenceIdeal.Samp

open Idealize.ShloMosaic Idealize.ShloMosaic.TcCoe Idealize.SL.Sem
open Cert.ReferenceIdeal Cert.ReferenceIdeal.Gen Cert.ReferenceIdeal.Value

theorem one_bits : Ideal.ofBits .f32 0x3F800000#32 = 1 := by
  simp [Ideal.ofBits, Ideal.ieee, -EReal.coe_mul]; norm_num

/-- Where an update of the vector scatter lands. -/
theorem lands1 (idx : IVec S262144x1 32) (n : Fin 262144) (c : Fin 32) :
    scatter_S32_S262144x1_S262144_n_0_0_1.resultIdx? (ix1 n) idx = some (ix1 c) ↔ (idx (ix2 n (0 : Fin 1))).toInt = (c.val : Int) := by
  have hw : scatter_S32_S262144x1_S262144_n_0_0_1.window (ix1 n) 0 = 0 := rfl
  have hs : scatter_S32_S262144x1_S262144_n_0_0_1.start (ix1 n) idx 0 = (idx (ix2 n (0 : Fin 1))).toInt :=
    congrArg (fun z => (idx z).toInt) (funext fun b => by fin_cases b <;> rfl)
  rw [Routing.resultIdx?_eq_some]
  refine ⟨fun h => ?_, fun h a => ?_⟩
  · have := h 0
    rw [hw, hs] at this
    simpa using this
  · obtain rfl : a = 0 := Subsingleton.elim _ _
    rw [hw, hs, h]
    simp

/-- Where an update of the row scatter lands. -/
theorem lands2 (idx : IVec S262144x1 32) (n : Fin 262144) (e' e c : Fin 32) :
    scatter_S32x32_S262144x1_S262144x32_1_0_0_1.resultIdx? (ix2 n e') idx = some (ix2 c e) ↔ (idx (ix2 n (0 : Fin 1))).toInt = (c.val : Int) ∧ e' = e := by
  have hw0 : scatter_S32x32_S262144x1_S262144x32_1_0_0_1.window (ix2 n e') 0 = 0 := rfl
  have hw1 : scatter_S32x32_S262144x1_S262144x32_1_0_0_1.window (ix2 n e') 1 = e'.val := rfl
  have hs0 : scatter_S32x32_S262144x1_S262144x32_1_0_0_1.start (ix2 n e') idx 0 = (idx (ix2 n (0 : Fin 1))).toInt :=
    congrArg (fun z => (idx z).toInt) (funext fun b => by fin_cases b <;> rfl)
  have hs1 : scatter_S32x32_S262144x1_S262144x32_1_0_0_1.start (ix2 n e') idx 1 = 0 := rfl
  rw [Routing.resultIdx?_eq_some]
  refine ⟨fun h => ⟨?_, ?_⟩, fun h a => ?_⟩
  · have := h 0
    rw [hw0, hs0] at this
    simpa using this
  · have := h 1
    rw [hw1, hs1] at this
    exact Fin.ext (by simpa using this)
  · match a with
    | ⟨0, _⟩ => exact (congrArg₂ (fun (a : Int) (b : Nat) => a + (b : Int)) (hs0.trans h.1) hw0).trans (add_zero _)
    | ⟨1, _⟩ => exact (congrArg₂ (fun (a : Int) (b : Nat) => a + (b : Int)) hs1 hw1).trans ((zero_add _).trans (congrArg (fun z : Fin 32 => (z.val : Int)) h.2))

/-- A label is class `c` read signed exactly when it is the word `c`. -/
theorem toInt_eq (w : BitVec 32) (c : Fin 32) : w.toInt = (c.val : Int) ↔ w = BitVec.ofNat 32 c.val := by
  have hc := c.isLt
  have h0 : (BitVec.ofNat 32 c.val).toInt = (c.val : Int) := by
    rw [BitVec.toInt_eq_toNat_of_lt] <;> simp [BitVec.toNat_ofNat] <;> omega
  rw [← h0, BitVec.toInt_inj]

/-- A scattered sum at an element: what was there and every update that lands on it. -/
theorem scatterAdd_at {s si u : Shape} {φ : FTy} {w : Nat} (d : ScatterDims s si u) (x : FVec Ideal s φ) (idx : IVec si w) (upd : FVec Ideal u φ) (i : s.Idx) :
    Host.scatterAdd d x idx upd i = (x i : EReal) + ∑ j, if d.resultIdx? j idx = some i then (upd j : EReal) else 0 :=
  congrArg (fun z : EReal => (x i : EReal) + z) (Finset.sum_filter _ _)

/-- The vector scatter reads as the classes' parts. -/
theorem scatter1 (x0 : FVec Ideal S32 .f32) (k : IVec S262144 32) (u : FVec Ideal S262144 .f32) (c : Fin 32) :
    Host.scatterAdd scatter_S32_S262144x1_S262144_n_0_0_1 x0 (broadcastInDim S262144x1 ![0] bcast_S262144_S262144x1_0 k) u (ix1 c)
      = x0 (ix1 c) + Spec.part (fun n => k (ix1 n)) (fun n => u (ix1 n)) c := by
  rw [scatterAdd_at, sum_idx1]
  unfold Spec.part
  refine congrArg (fun z : EReal => x0 (ix1 c) + z) (Finset.sum_congr rfl fun n _ => ?_)
  have e : (broadcastInDim S262144x1 ![0] bcast_S262144_S262144x1_0 k) (ix2 n (0 : Fin 1)) = k (ix1 n) := by pointwise
  refine if_congr ((lands1 _ n c).trans ?_) rfl rfl
  rw [e]
  exact toInt_eq _ _

/-- The row scatter reads as the classes' parts. -/
theorem scatter2 (x0 : FVec Ideal S32x32 .f32) (k : IVec S262144 32) (u : FVec Ideal S262144x32 .f32) (c e : Fin 32) :
    Host.scatterAdd scatter_S32x32_S262144x1_S262144x32_1_0_0_1 x0 (broadcastInDim S262144x1 ![0] bcast_S262144_S262144x1_0 k) u (ix2 c e)
      = x0 (ix2 c e) + Spec.part (fun n => k (ix1 n)) (fun n => u (ix2 n e)) c := by
  rw [scatterAdd_at, sum_idx2]
  unfold Spec.part
  refine congrArg (fun z : EReal => x0 (ix2 c e) + z) (Finset.sum_congr rfl fun n _ => ?_)
  have e' : (broadcastInDim S262144x1 ![0] bcast_S262144_S262144x1_0 k) (ix2 n (0 : Fin 1)) = k (ix1 n) := by pointwise
  have h : ∀ b : Fin 32, (scatter_S32x32_S262144x1_S262144x32_1_0_0_1.resultIdx? (ix2 n b) (broadcastInDim S262144x1 ![0] bcast_S262144_S262144x1_0 k) = some (ix2 c e)) ↔ (b = e ∧ k (ix1 n) = BitVec.ofNat 32 c.val) := fun b => by
    rw [lands2, e', toInt_eq, and_comm]
  refine (Finset.sum_congr rfl fun b _ => if_congr (h b) rfl rfl).trans ?_
  rw [Finset.sum_eq_single e (fun b _ hb => if_neg fun q => hb q.1) (fun q => (q (Finset.mem_univ _)).elim)]
  exact if_congr (by simp) rfl rfl

end Cert.ReferenceIdeal.Samp

end
-- ==== Proof.RSpec.lean ====
/-
  The reference's computation on one sample is the one of Spec.lean.
-/
module

public import proofs.«01_k».proof.Proof.RRead

@[expose] public section

set_option maxRecDepth 16384

noncomputable section

namespace Cert.ReferenceIdeal.Samp

open Idealize.ShloMosaic Idealize.ShloMosaic.TcCoe Idealize.SL.Sem
open Cert.ReferenceIdeal Cert.ReferenceIdeal.Gen Cert.ReferenceIdeal.Value

/-- A truth value as a number. -/
theorem uitofp_ofBool (p : Prop) [Decidable p] : (FloatOps.uitofp .f32 (BitVec.ofBool (decide p)) : Ideal .f32) = (if p then 1 else 0 : EReal) := by
  by_cases h : p
  · rw [decide_eq_true h, if_pos h]; show (((1#1).toNat : ℝ) : EReal) = 1; simp
  · rw [decide_eq_false h, if_neg h]; show (((0#1).toNat : ℝ) : EReal) = 0; simp

theorem select_ofBool (p : Prop) [Decidable p] (a b : EReal) : Scalar.select (BitVec.ofBool (decide p)) a b = if p then a else b := by
  by_cases h : p <;> simp [h, Scalar.select]

theorem and_ofBool (p q : Prop) [Decidable p] [Decidable q] [Decidable (p ∧ q)] : IntOp.andi (BitVec.ofBool (decide p)) (BitVec.ofBool (decide q)) = BitVec.ofBool (decide (p ∧ q)) := by
  by_cases h : p <;> by_cases h' : q <;> simp [h, h', IntOp.andi]

theorem slt_ofNat : ∀ i j : Fin 32, IntOp.cmpi .slt (BitVec.ofNat 32 i.val) (BitVec.ofNat 32 j.val) = BitVec.ofBool (decide (i.val < j.val)) := by decide +kernel
theorem sgt_ofNat : ∀ i : Fin 32, IntOp.cmpi .sgt (BitVec.ofNat 32 i.val) 0#32 = BitVec.ofBool (decide (0 < i.val)) := by decide +kernel

variable (x : FVec Ideal S32x262144 .f32) (k : IVec S262144 32)

/-- The pixels and the labels as functions of numbers. -/
abbrev X : Fin 32 → Fin 262144 → EReal := fun e n => x (ix2 e n)
abbrev K : Fin 262144 → BitVec 32 := fun n => k (ix1 n)

theorem zero_const : (constant (F := Ideal) S_ .f32 0x00000000#32) ix0 = (0 : EReal) := by pointwise

theorem cnt_at (c : Fin 32) : cnt (F := Ideal) k (ix1 c) = Spec.cnt (K k) c := by
  unfold cnt
  refine (scatter1 _ _ _ c).trans ?_
  pointwise
  rfl

theorem cen_at (c e : Fin 32) : cen x k (ix2 c e) = Spec.cen (X x) (K k) c e := by
  pointwise [cen, safe]
  rw [scatter2, cnt_at]
  pointwise
  rfl

theorem dev_at (n : Fin 262144) (e c : Fin 32) (h : k (ix1 n) = BitVec.ofNat 32 c.val) : dev x k (ix2 n e) = x (ix2 e n) - Spec.cen (X x) (K k) c e := by
  pointwise [dev]
  rw [← cen_at]
  refine congrArg (fun z : EReal => (x (ix2 e n) : EReal) - z) ?_
  refine Routing.gather_row _ rfl rfl rfl rfl rfl _ _ n e c ?_ (by norm_num)
  pointwise
  rw [h]
  exact Routing.wrap_of_lt _ _ (by have := c.isLt; simp; omega)

theorem hinge_at (n : Fin 262144) (c : Fin 32) (h : k (ix1 n) = BitVec.ofNat 32 c.val) :
    (hinge x k (ix1 n) * hinge x k (ix1 n) : EReal) = Spec.hin (X x) (K k) c n := by
  pointwise [hinge]
  simp only [dev_at x k n _ c h]
  rfl

theorem hsum_at (c : Fin 32) : hsum x k (ix1 c) = Spec.hs (X x) (K k) c := by
  unfold hsum
  refine (scatter1 _ _ _ c).trans ?_
  unfold Spec.hs Spec.part
  pointwise
  refine Finset.sum_congr rfl fun n _ => ?_
  by_cases h : k (ix1 n) = BitVec.ofNat 32 c.val
  · rw [if_pos h, if_pos h]; exact hinge_at x k n c h
  · rw [if_neg h, if_neg h]

abbrev T : Fin 32 → EReal := Spec.cnt (K k)
abbrev C : Fin 32 → Fin 32 → EReal := Spec.cen (X x) (K k)

theorem valid_at (c : Fin 32) : valid (F := Ideal) k (ix1 c) = BitVec.ofBool (decide (Spec.ok (T k) c)) := by
  pointwise [valid]
  rw [cnt_at, sgt_ofNat, and_ofBool]
  exact congrArg BitVec.ofBool (decide_eq_decide.mpr Iff.rfl)

theorem nInst_at : nInst (F := Ideal) k ix0 = Spec.nI (T k) := by
  pointwise [nInst]
  simp only [valid_at, uitofp_ofBool]
  rfl

theorem has_at : has (F := Ideal) k ix0 = Spec.has (T k) := by
  pointwise [has]
  rw [nInst_at, uitofp_ofBool]
  rfl

theorem pairs_at (i j : Fin 32) : pairs (F := Ideal) k (ix2 i j) = BitVec.ofBool (decide (Spec.pr (T k) i j)) := by
  pointwise [pairs]
  rw [valid_at, valid_at, slt_ofNat, and_ofBool, and_ofBool]
  exact congrArg BitVec.ofBool (decide_eq_decide.mpr Iff.rfl)

theorem phinge_at (i j : Fin 32) : phinge x k (ix2 i j) = Spec.ph (C x k) i j := by
  pointwise [phinge, cdiff]
  simp only [cen_at]
  rfl

theorem lossVar_at : lossVar x k ix0 = Spec.lv (T k) (Spec.hs (X x) (K k)) := by
  pointwise [lossVar, safe]
  rw [nInst_at, has_at]
  simp only [id_eq, zero_const, valid_at, select_ofBool, hsum_at, cnt_at]
  rfl

theorem lossDist_at : lossDist x k ix0 = Spec.ld (T k) (C x k) := by
  pointwise [lossDist]
  rw [has_at]
  simp only [id_eq, zero_const, pairs_at, select_ofBool, phinge_at, uitofp_ofBool]
  rfl

theorem lossReg_at : lossReg x k ix0 = Spec.lr (T k) (C x k) := by
  pointwise [lossReg]
  rw [nInst_at, has_at]
  simp only [id_eq, zero_const, valid_at, select_ofBool, cen_at]
  rfl

end Cert.ReferenceIdeal.Samp

end
-- ==== Proof.RFinal.lean ====
/-
  The reference's four results, in terms of the arguments' pixels and labels.
-/
module

public import proofs.«01_k».proof.Proof.RSpec
public import proofs.«01_k».proof.Proof.EMath

@[expose] public section

set_option maxRecDepth 16384

noncomputable section

namespace Cert.ReferenceIdeal.Samp

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ) (c : Dev nD)

/-- The arguments' pixels and labels. -/
abbrev PX : Fin 4 → Fin 32 → Fin 262144 → EReal := Spec.pix (m ((c : Thread nD τ).loc main_arg0))
abbrev LB : Fin 4 → Fin 262144 → BitVec 32 := Spec.lab (m ((c : Thread nD τ).loc main_arg1))

theorem xs_at (b : Fin 4) (e : Fin 32) (n : Fin 262144) : xs (launchContents m c) b (ix2 e n) = PX m c b e n := by
  match b with
  | 0 => show res_main_v3 (launchContents m c) (ix2 e n) = _; pointwise [res_main_v3, res_main_v0]; rfl
  | 1 => show res_main_v105 (launchContents m c) (ix2 e n) = _; pointwise [res_main_v105, res_main_v0]; rfl
  | 2 => show res_main_v207 (launchContents m c) (ix2 e n) = _; pointwise [res_main_v207, res_main_v0]; rfl
  | 3 => show res_main_v309 (launchContents m c) (ix2 e n) = _; pointwise [res_main_v309, res_main_v0]; rfl

theorem ks_at (b : Fin 4) (n : Fin 262144) : ks (launchContents m c) b (ix1 n) = LB m c b n := by
  match b with
  | 0 => show res_main_v5 (launchContents m c) (ix1 n) = _; pointwise [res_main_v5, res_main_v1]; rfl
  | 1 => show res_main_v107 (launchContents m c) (ix1 n) = _; pointwise [res_main_v107, res_main_v1]; rfl
  | 2 => show res_main_v209 (launchContents m c) (ix1 n) = _; pointwise [res_main_v209, res_main_v1]; rfl
  | 3 => show res_main_v311 (launchContents m c) (ix1 n) = _; pointwise [res_main_v311, res_main_v1]; rfl

theorem X_eq (b : Fin 4) : X (xs (launchContents m c) b) = PX m c b := funext fun e => funext fun n => xs_at m c b e n
theorem K_eq (b : Fin 4) : K (ks (launchContents m c) b) = LB m c b := funext fun n => ks_at m c b n

/-- The terms of the reference on sample `b`. -/
theorem terms_eq (x : FVec Ideal S32x262144 .f32) (k : IVec S262144 32) (b : Fin 4) (P : Fin 4 → Fin 32 → Fin 262144 → EReal) (L : Fin 4 → Fin 262144 → BitVec 32)
    (hx : X x = P b) (hk : K k = L b) : lossVar x k ix0 = Spec.terms P L b 0 ∧ lossDist x k ix0 = Spec.terms P L b 1
      ∧ lossReg x k ix0 = Spec.terms P L b 2 ∧ has (F := Ideal) k ix0 = Spec.terms P L b 3 := by
  rw [lossVar_at, lossDist_at, lossReg_at, has_at]
  unfold T C
  rw [hx, hk]
  unfold Spec.terms
  exact ⟨rfl, rfl, rfl, rfl⟩

theorem sum4_at (f : Fin 4 → FVec Ideal S_ .f32) (g : Fin 4 → EReal) (h : ∀ b, f b ix0 = g b) : sum4 f ix0 = Spec.sum4 g := by
  have e : sum4 f ix0 = (0 + f 0 ix0 + f 1 ix0 + f 2 ix0 + f 3 ix0 : EReal) := by
    unfold sum4
    show ((((constant (F := Ideal) S_ .f32 0x00000000#32) ix0 + f 0 ix0 : EReal) + f 1 ix0 : EReal) + f 2 ix0 : EReal) + f 3 ix0 = (_ : EReal)
    rw [zero_const]
  rw [e, h, h, h, h]
  rfl

theorem mean4_at (k : Fin 4 → IVec S262144 32) (f : Fin 4 → FVec Ideal S_ .f32) (h g : Fin 4 → EReal)
    (hh : ∀ b, has (F := Ideal) (k b) ix0 = h b) (hf : ∀ b, f b ix0 = g b) : mean4 k f ix0 = Spec.mean4 h g := by
  pointwise [mean4]
  rw [sum4_at f g hf, sum4_at _ h hh]
  rfl

theorem means_at (b : Fin 4) : lossVar (xs (launchContents m c) b) (ks (launchContents m c) b) ix0 = Spec.terms (PX m c) (LB m c) b 0
    ∧ lossDist (xs (launchContents m c) b) (ks (launchContents m c) b) ix0 = Spec.terms (PX m c) (LB m c) b 1
    ∧ lossReg (xs (launchContents m c) b) (ks (launchContents m c) b) ix0 = Spec.terms (PX m c) (LB m c) b 2
    ∧ has (F := Ideal) (ks (launchContents m c) b) ix0 = Spec.terms (PX m c) (LB m c) b 3 :=
  terms_eq _ _ b _ _ (X_eq m c b) (K_eq m c b)

theorem meanVar_at : meanVar (launchContents m c) ix0 = Spec.res (PX m c) (LB m c) 0 :=
  mean4_at _ _ _ _ (fun b => (means_at m c b).2.2.2) fun b => (means_at m c b).1
theorem meanDist_at : meanDist (launchContents m c) ix0 = Spec.res (PX m c) (LB m c) 1 :=
  mean4_at _ _ _ _ (fun b => (means_at m c b).2.2.2) fun b => (means_at m c b).2.1
theorem meanReg_at : meanReg (launchContents m c) ix0 = Spec.res (PX m c) (LB m c) 2 :=
  mean4_at _ _ _ _ (fun b => (means_at m c b).2.2.2) fun b => (means_at m c b).2.2.1
theorem total_at : totalOf (launchContents m c) ix0 = Spec.tot (PX m c) (LB m c) := by
  pointwise [totalOf]
  rw [meanVar_at, meanDist_at, meanReg_at]
  rfl

end Cert.ReferenceIdeal.Samp

end
-- ==== Proof.lean ====
/-
  The certificate of 01_k: the claims, proved.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KLaunch
public import proofs.«01_k».proof.Proof.ILaunch
public import proofs.«01_k».proof.Proof.IFinal
public import proofs.«01_k».proof.Proof.RFinal
public import Idealize.ShloMosaic.Adequacy
public import Idealize.ShloMosaic.Init

@[expose] public section

noncomputable section

namespace Cert.Proof

open Idealize.ShloMosaic Idealize.SL.Sem Cert.Kernel

/-- The kernel runs, leaves its arguments, and ends with every counter at zero. -/
theorem frame_kernel : Cert.quiescent_Kernel := fun m g _ => Cert.Kernel.Hand.frame_main m g

/-- The same of the kernel over the extended reals. -/
theorem frame_kernelIdeal : Cert.quiescent_KernelIdeal := fun m g _ => Cert.KernelIdeal.Hand.frame_main m g

/-- The reference runs and leaves its arguments; it has no semaphore. -/
theorem frame_referenceIdeal : Cert.quiescent_ReferenceIdeal := fun m g _ =>
  (θ_run (Cert.ReferenceIdeal.defs (F := Ideal)) _ _).mono
    (fun r h => ⟨fun c => (h c).2.2.2.2, Idealize.ShloMosaic.sem_eq_zero_of_no_sems (by decide) r.2⟩)
    (Cert.ReferenceIdeal.Value.run (F := Ideal) m g)

/-- The precondition's one shape relation. -/
theorem facts_pre : Cert.Pre_embedding_finite.Facts := ⟨by decide⟩

/-- Under the precondition every pixel is a number. -/
theorem pixels_real [Cert.Pre_embedding_finite.Facts] (m : (ℓ : Loc Cert.KernelIdeal.nD Cert.KernelIdeal.τ Cert.KernelIdeal.sig) → Buf (Elt Ideal) ℓ)
    (h : Pre_KernelIdeal_embedding_finite m) (c : Dev Cert.KernelIdeal.nD) (b : Fin 4) (e : Fin 32) (n : Fin 262144) :
    Spec.Real' (Cert.KernelIdeal.Hand.PX m c b e n) := by
  have h1 := congrFun (h c) (ix4 b e ⟨n.val / 512, by have := n.isLt; omega⟩ ⟨n.val % 512, by omega⟩)
  revert h1
  pointwise [Cert.Pre_embedding_finite.fn]
  intro h1
  refine Spec.real_of_abs (lt_of_lt_of_le ?_ le_top (a := _) (b := Ideal.ofBits FTy.f32 0x7F800000#32))
  by_contra hn
  exact absurd ((congrArg BitVec.ofBool (decide_eq_false hn)).symm.trans h1) (by decide)

/-- What the reference leaves, in terms of the kernel's arguments. -/
theorem reference_values (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.ReferenceIdeal.Samp.PX m' c = Cert.KernelIdeal.Hand.PX m c ∧ Cert.ReferenceIdeal.Samp.LB m' c = Cert.KernelIdeal.Hand.LB m c :=
  ⟨congrArg Spec.pix h0, congrArg Spec.lab h1⟩

/-- Over the extended reals the kernel and the reference give the same four numbers. -/
theorem algebraic [Cert.Pre_embedding_finite.Facts] : Cert.algebraic_KernelIdeal_ReferenceIdeal_pre_embedding_finite := by
  intro m g m' g' hpre hag
  refine ⟨fun c => Cert.KernelIdeal.Hand.one (Spec.tot (Cert.KernelIdeal.Hand.PX m c) (Cert.KernelIdeal.Hand.LB m c)),
    fun c => Cert.KernelIdeal.Hand.one (Spec.res (Cert.KernelIdeal.Hand.PX m c) (Cert.KernelIdeal.Hand.LB m c) 0),
    fun c => Cert.KernelIdeal.Hand.one (Spec.res (Cert.KernelIdeal.Hand.PX m c) (Cert.KernelIdeal.Hand.LB m c) 1),
    fun c => Cert.KernelIdeal.Hand.one (Spec.res (Cert.KernelIdeal.Hand.PX m c) (Cert.KernelIdeal.Hand.LB m c) 2),
    Cert.KernelIdeal.Hand.run_values m g (pixels_real m hpre), ?_⟩
  refine (θ_run (Cert.ReferenceIdeal.defs (F := Ideal)) _ _).mono (fun r h c => ?_) (Cert.ReferenceIdeal.Samp.run (F := Ideal) m' g')
  obtain ⟨r0, r1, r2, r3, a0, a1⟩ := h c
  obtain ⟨eP, eL⟩ := reference_values m m' c (hag c).1 (hag c).2
  beta_reduce
  rw [← eP, ← eL]
  exact ⟨r0.trans (Cert.KernelIdeal.Hand.eq_one _ _ (Cert.ReferenceIdeal.Samp.total_at m' c)),
    r1.trans (Cert.KernelIdeal.Hand.eq_one _ _ (Cert.ReferenceIdeal.Samp.meanVar_at m' c)),
    r2.trans (Cert.KernelIdeal.Hand.eq_one _ _ (Cert.ReferenceIdeal.Samp.meanDist_at m' c)),
    r3.trans (Cert.KernelIdeal.Hand.eq_one _ _ (Cert.ReferenceIdeal.Samp.meanReg_at m' c)), a0, a1⟩

theorem claim : Cert.Claim := ⟨Cert.Kernel.Gen.facts, Cert.KernelIdeal.Gen.facts, Cert.ReferenceIdeal.Gen.facts, facts_pre,
  frame_kernel, frame_kernelIdeal, fun m g _ => Cert.KernelIdeal.Hand.frame_main m g, frame_referenceIdeal,
  fun m g _ => frame_referenceIdeal m g trivial, trivial, @algebraic facts_pre⟩

end Cert.Proof

end
